-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S256x2x128 Cert.KernelIdeal.S256x1x128
  ∧ IdealRules.bf16_pair.Statement Cert.KernelIdeal.S32x128 Cert.KernelIdeal.S16x128
  ∧ IdealRules.bf16_pair.Statement Cert.KernelIdeal.S16x2x128 Cert.KernelIdeal.S16x1x128
  ∧ IdealRules.bf16_pair.Statement Cert.KernelIdeal.S256x256 Cert.KernelIdeal.S128x256
  ∧ IdealRules.bf16_pair.Statement Cert.KernelIdeal.S256x128 Cert.KernelIdeal.S128x128
  ∧ IdealRules.bf16_pair.Statement Cert.KernelIdeal.S8x2x128 Cert.KernelIdeal.S8x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x27648 : Shape := ⟨3, ![2, 128, 27648]⟩
abbrev S2x128x216 : Shape := ⟨3, ![2, 128, 216]⟩
abbrev S27648x2560 : Shape := ⟨2, ![27648, 2560]⟩
abbrev S27648x80 : Shape := ⟨2, ![27648, 80]⟩
abbrev S8640 : Shape := ⟨1, ![8640]⟩
abbrev S1 : Shape := ⟨1, ![1]⟩
abbrev S32x128 : Shape := ⟨2, ![32, 128]⟩
abbrev S256x27648 : Shape := ⟨2, ![256, 27648]⟩
abbrev S256x216 : Shape := ⟨2, ![256, 216]⟩
abbrev S_ : Shape := ⟨0, ![]⟩
abbrev S256x256 : Shape := ⟨2, ![256, 256]⟩
abbrev S256x5120 : Shape := ⟨2, ![256, 5120]⟩
abbrev S256x512 : Shape := ⟨2, ![256, 512]⟩
abbrev S512x2560 : Shape := ⟨2, ![512, 2560]⟩
abbrev S512x80 : Shape := ⟨2, ![512, 80]⟩
abbrev S256x128 : Shape := ⟨2, ![256, 128]⟩
abbrev S2x512x256 : Shape := ⟨3, ![2, 512, 256]⟩
abbrev S2x256x2560 : Shape := ⟨3, ![2, 256, 2560]⟩
abbrev S8x80 : Shape := ⟨2, ![8, 80]⟩
abbrev S32x80 : Shape := ⟨2, ![32, 80]⟩
abbrev S32x48 : Shape := ⟨2, ![32, 48]⟩
abbrev S16x128 : Shape := ⟨2, ![16, 128]⟩
abbrev S128x256 : Shape := ⟨2, ![128, 256]⟩
abbrev S128x128 : Shape := ⟨2, ![128, 128]⟩
abbrev S256x128x1 : Shape := ⟨3, ![256, 128, 1]⟩
abbrev S8x128 : Shape := ⟨2, ![8, 128]⟩
abbrev S32x128x1 : Shape := ⟨3, ![32, 128, 1]⟩
abbrev S16x128x1 : Shape := ⟨3, ![16, 128, 1]⟩
abbrev S1x16x128 : Shape := ⟨3, ![1, 16, 128]⟩
abbrev S1x256x256 : Shape := ⟨3, ![1, 256, 256]⟩
abbrev S1x512x256 : Shape := ⟨3, ![1, 512, 256]⟩
abbrev S512x256 : Shape := ⟨2, ![512, 256]⟩
abbrev S1x256x128 : Shape := ⟨3, ![1, 256, 128]⟩

abbrev nBuf : Space → Nat
  | .hbm => 13
  | .vmem => 14
  | .smem => 2
  | _ => 0

abbrev bufTy : (tb : Table) → Fin (tcTables nBuf tb) → BufTy
  | .hbm, ⟨0, _⟩ => ⟨S2x128x27648, .fp8e4m3⟩
  | .hbm, ⟨1, _⟩ => ⟨S2x128x216, .f32⟩
  | .hbm, ⟨2, _⟩ => ⟨S27648x2560, .i8⟩
  | .hbm, ⟨3, _⟩ => ⟨S27648x80, .i8⟩
  | .hbm, ⟨4, _⟩ => ⟨S8640, .f32⟩
  | .hbm, ⟨5, _⟩ => ⟨S1, .f32⟩
  | .hbm, ⟨6, _⟩ => ⟨S32x128, .i8⟩
  | .hbm, ⟨7, _⟩ => ⟨S256x27648, .fp8e4m3⟩
  | .hbm, ⟨8, _⟩ => ⟨S256x216, .f32⟩
  | .hbm, ⟨9, _⟩ => ⟨S_, .i32⟩
  | .hbm, ⟨10, _⟩ => ⟨S_, .f32⟩
  | .hbm, ⟨11, _⟩ => ⟨S256x256, .f32⟩
  | .hbm, ⟨12, _⟩ => ⟨S256x5120, .bf16⟩
  | .local _ .vmem, ⟨0, _⟩ => ⟨S32x128, .i8⟩
  | .local _ .vmem, ⟨1, _⟩ => ⟨S256x512, .fp8e4m3⟩
  | .local _ .vmem, ⟨2, _⟩ => ⟨S256x512, .fp8e4m3⟩
  | .local _ .vmem, ⟨3, _⟩ => ⟨S256x256, .f32⟩
  | .local _ .vmem, ⟨4, _⟩ => ⟨S512x2560, .i8⟩
  | .local _ .vmem, ⟨5, _⟩ => ⟨S512x2560, .i8⟩
  | .local _ .vmem, ⟨6, _⟩ => ⟨S512x80, .i8⟩
  | .local _ .vmem, ⟨7, _⟩ => ⟨S512x80, .i8⟩
  | .local _ .vmem, ⟨8, _⟩ => ⟨S256x5120, .bf16⟩
  | .local _ .vmem, ⟨9, _⟩ => ⟨S256x512, .bf16⟩
  | .local _ .vmem, ⟨10, _⟩ => ⟨S256x128, .i32⟩
  | .local _ .vmem, ⟨11, _⟩ => ⟨S2x512x256, .bf16⟩
  | .local _ .vmem, ⟨12, _⟩ => ⟨S2x512x256, .bf16⟩
  | .local _ .vmem, ⟨13, _⟩ => ⟨S2x256x2560, .f32⟩
  | .local _ .smem, ⟨0, _⟩ => ⟨S8640, .f32⟩
  | .local _ .smem, ⟨1, _⟩ => ⟨S1, .f32⟩
  | _, _ => ⟨S2x128x27648, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [BitOps F]

abbrev grid0 : Pipeline.Grid := ⟨1, ![54], ![false]⟩

@[reducible] def k0_t1_loop : Scf.Loop 32 :=
  let c0_i32_1 : BitVec 32 := 0#32
  let c16_i32 : BitVec 32 := 16#32
  let v9 : BitVec 32 := Scalar.addi c0_i32_1 c16_i32
  let c1_i32 : BitVec 32 := 1#32
  ⟨c0_i32_1, v9, c1_i32⟩
def k0_mult1 (k0_t1 : Fin k0_t1_loop.trips) : BitVec 32 :=
  let c0_i32_1 : BitVec 32 := 0#32
  let c1_i32 : BitVec 32 := 1#32
  let arg14 : BitVec 32 := Scf.iv c0_i32_1 c1_i32 k0_t1
  let c32_i32 : BitVec 32 := 32#32
  let v187 : BitVec 32 := Scalar.muli arg14 c32_i32
  v187
def k0_off1 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c32_i32 : BitVec 32 := 32#32
  let v187 : BitVec 32 := Scalar.muli arg14 c32_i32
  let v188 : BitVec 32 := v187
  let v192 : Index := Scalar.indexCast v188
  let c0_69 : Index := 0#32
  ![v192.toNat, 0]
def k0_off2 (i : grid0.Coords) (k0_t1 : Fin k0_t1_loop.trips) (c0_i32_70 : BitVec 32) : Fin 1 → Nat :=
  let arg0 : BitVec 32 := BitVec.ofNat 32 (i 0).val
  let c16_i32_67 : BitVec 32 := 16#32
  let v189 : BitVec 32 := Scalar.muli arg0 c16_i32_67
  let c0_i32_1 : BitVec 32 := 0#32
  let c1_i32 : BitVec 32 := 1#32
  let arg14 : BitVec 32 := Scf.iv c0_i32_1 c1_i32 k0_t1
  let v190 : BitVec 32 := Scalar.addi v189 arg14
  let c10_i32_68 : BitVec 32 := 10#32
  let v191 : BitVec 32 := Scalar.muli v190 c10_i32_68
  let v195 : BitVec 32 := Scalar.addi v191 c0_i32_70
  let v196 : Index := Scalar.indexCast v195
  ![v196.toNat]
def k0_mult2 (k0_t1 : Fin k0_t1_loop.trips) : BitVec 32 :=
  let c0_i32_1 : BitVec 32 := 0#32
  let c1_i32 : BitVec 32 := 1#32
  let arg14 : BitVec 32 := Scf.iv c0_i32_1 c1_i32 k0_t1
  let c32_i32 : BitVec 32 := 32#32
  let v187 : BitVec 32 := Scalar.muli arg14 c32_i32
  let v188 : BitVec 32 := v187
  let c2_i32_82 : BitVec 32 := 2#32
  let v288 : BitVec 32 := Scalar.divsi v188 c2_i32_82
  v288
def k0_off3 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c32_i32 : BitVec 32 := 32#32
  let v187 : BitVec 32 := Scalar.muli arg14 c32_i32
  let v188 : BitVec 32 := v187
  let c2_i32_82 : BitVec 32 := 2#32
  let v288 : BitVec 32 := Scalar.divsi v188 c2_i32_82
  let v289 : BitVec 32 := v288
  let v290 : Index := Scalar.indexCast v289
  let c0_83 : Index := 0#32
  ![v290.toNat, 0]
@[reducible] def k0_t2_loop : Scf.Loop 32 :=
  let c0_i32_63 : BitVec 32 := 0#32
  let c10_i32 : BitVec 32 := 10#32
  let v183 : BitVec 32 := Scalar.addi c0_i32_63 c10_i32
  let c1_i32_64 : BitVec 32 := 1#32
  ⟨c0_i32_63, v183, c1_i32_64⟩
@[reducible] def k0_t3_loop : Scf.Loop 32 :=
  let c0_i32_67 : BitVec 32 := 0#32
  let c2_i32_68 : BitVec 32 := 2#32
  let v187 : BitVec 32 := Scalar.addi c0_i32_67 c2_i32_68
  let c1_i32_69 : BitVec 32 := 1#32
  ⟨c0_i32_67, v187, c1_i32_69⟩
def k0_mult3 (k0_t2 : Fin k0_t2_loop.trips) (k0_t3 : Fin k0_t3_loop.trips) : BitVec 32 :=
  let c0_i32_63 : BitVec 32 := 0#32
  let c1_i32_64 : BitVec 32 := 1#32
  let arg14 : BitVec 32 := Scf.iv c0_i32_63 c1_i32_64 k0_t2
  let c256_i32_87 : BitVec 32 := 256#32
  let v217 : BitVec 32 := Scalar.muli arg14 c256_i32_87
  let c0_i32_67 : BitVec 32 := 0#32
  let c1_i32_69 : BitVec 32 := 1#32
  let arg15 : BitVec 32 := Scf.iv c0_i32_67 c1_i32_69 k0_t3
  let c128_i32_88 : BitVec 32 := 128#32
  let v218 : BitVec 32 := Scalar.muli arg15 c128_i32_88
  let v219 : BitVec 32 := Scalar.addi v217 v218
  v219
@[reducible] def k0_t4_loop : Scf.Loop 32 :=
  let c0_i32_96 : BitVec 32 := 0#32
  let c16_i32_97 : BitVec 32 := 16#32
  let v248 : BitVec 32 := Scalar.addi c0_i32_96 c16_i32_97
  let c1_i32_98 : BitVec 32 := 1#32
  ⟨c0_i32_96, v248, c1_i32_98⟩
def k0_mult4 (k0_t4 : Fin k0_t4_loop.trips) : BitVec 32 :=
  let c0_i32_96 : BitVec 32 := 0#32
  let c1_i32_98 : BitVec 32 := 1#32
  let arg16 : BitVec 32 := Scf.iv c0_i32_96 c1_i32_98 k0_t4
  let c32_i32_100 : BitVec 32 := 32#32
  let v249 : BitVec 32 := Scalar.muli arg16 c32_i32_100
  v249
def k0_off4 (k0_t2 : Fin k0_t2_loop.trips) (k0_t3 : Fin k0_t3_loop.trips) (k0_t4 : Fin k0_t4_loop.trips) : Fin 2 → Nat :=
  let c0_i32_96 : BitVec 32 := 0#32
  let c1_i32_98 : BitVec 32 := 1#32
  let arg16 : BitVec 32 := Scf.iv c0_i32_96 c1_i32_98 k0_t4
  let c32_i32_100 : BitVec 32 := 32#32
  let v249 : BitVec 32 := Scalar.muli arg16 c32_i32_100
  let v250 : BitVec 32 := v249
  let v251 : Index := Scalar.indexCast v250
  let c0_i32_63 : BitVec 32 := 0#32
  let c1_i32_64 : BitVec 32 := 1#32
  let arg14 : BitVec 32 := Scf.iv c0_i32_63 c1_i32_64 k0_t2
  let c256_i32_87 : BitVec 32 := 256#32
  let v217 : BitVec 32 := Scalar.muli arg14 c256_i32_87
  let c0_i32_67 : BitVec 32 := 0#32
  let c1_i32_69 : BitVec 32 := 1#32
  let arg15 : BitVec 32 := Scf.iv c0_i32_67 c1_i32_69 k0_t3
  let c128_i32_88 : BitVec 32 := 128#32
  let v218 : BitVec 32 := Scalar.muli arg15 c128_i32_88
  let v219 : BitVec 32 := Scalar.addi v217 v218
  let v220 : BitVec 32 := v219
  let v252 : Index := Scalar.indexCast v220
  ![v251.toNat, v252.toNat]
def k0_mult5 (k0_t4 : Fin k0_t4_loop.trips) : BitVec 32 :=
  let c0_i32_96 : BitVec 32 := 0#32
  let c1_i32_98 : BitVec 32 := 1#32
  let arg16 : BitVec 32 := Scf.iv c0_i32_96 c1_i32_98 k0_t4
  let c32_i32_100 : BitVec 32 := 32#32
  let v249 : BitVec 32 := Scalar.muli arg16 c32_i32_100
  let v250 : BitVec 32 := v249
  let c0_i32_101 : BitVec 32 := 0#32
  let v259 : BitVec 32 := Scalar.addi v250 c0_i32_101
  v259
def k0_mult6 (k0_t4 : Fin k0_t4_loop.trips) : BitVec 32 :=
  let c0_i32_96 : BitVec 32 := 0#32
  let c1_i32_98 : BitVec 32 := 1#32
  let arg16 : BitVec 32 := Scf.iv c0_i32_96 c1_i32_98 k0_t4
  let c32_i32_100 : BitVec 32 := 32#32
  let v249 : BitVec 32 := Scalar.muli arg16 c32_i32_100
  let v250 : BitVec 32 := v249
  let c0_i32_101 : BitVec 32 := 0#32
  let v259 : BitVec 32 := Scalar.addi v250 c0_i32_101
  let v260 : BitVec 32 := v259
  let c2_i32_102 : BitVec 32 := 2#32
  let v261 : BitVec 32 := Scalar.divsi v260 c2_i32_102
  v261
def k0_off5 (k0_t4 : Fin k0_t4_loop.trips) (c0_i32_101 : BitVec 32) : Fin 2 → Nat :=
  let c0_i32_96 : BitVec 32 := 0#32
  let c1_i32_98 : BitVec 32 := 1#32
  let arg16 : BitVec 32 := Scf.iv c0_i32_96 c1_i32_98 k0_t4
  let c32_i32_100 : BitVec 32 := 32#32
  let v249 : BitVec 32 := Scalar.muli arg16 c32_i32_100
  let v250 : BitVec 32 := v249
  let v259 : BitVec 32 := Scalar.addi v250 c0_i32_101
  let v260 : BitVec 32 := v259
  let c2_i32_102 : BitVec 32 := 2#32
  let v261 : BitVec 32 := Scalar.divsi v260 c2_i32_102
  let v262 : BitVec 32 := v261
  let v263 : Index := Scalar.indexCast v262
  let c0_103 : Index := 0#32
  ![v263.toNat, 0]
def k0_mult7 (k0_t3 : Fin k0_t3_loop.trips) : BitVec 32 :=
  let c0_i32_67 : BitVec 32 := 0#32
  let c1_i32_69 : BitVec 32 := 1#32
  let arg15 : BitVec 32 := Scf.iv c0_i32_67 c1_i32_69 k0_t3
  let c128_i32_106 : BitVec 32 := 128#32
  let v279 : BitVec 32 := Scalar.muli arg15 c128_i32_106
  v279
def k0_off6 (k0_t2 : Fin k0_t2_loop.trips) (k0_t3 : Fin k0_t3_loop.trips) (k0_t4 : Fin k0_t4_loop.trips) (c0_i32_101 : BitVec 32) : Fin 3 → Nat :=
  let c0_i32_63 : BitVec 32 := 0#32
  let c1_i32_64 : BitVec 32 := 1#32
  let arg14 : BitVec 32 := Scf.iv c0_i32_63 c1_i32_64 k0_t2
  let c2_i32_107 : BitVec 32 := 2#32
  let v293 : BitVec 32 := Scalar.remsi arg14 c2_i32_107
  let v294 : Index := Scalar.indexCast v293
  let c0_i32_96 : BitVec 32 := 0#32
  let c1_i32_98 : BitVec 32 := 1#32
  let arg16 : BitVec 32 := Scf.iv c0_i32_96 c1_i32_98 k0_t4
  let c32_i32_100 : BitVec 32 := 32#32
  let v249 : BitVec 32 := Scalar.muli arg16 c32_i32_100
  let v250 : BitVec 32 := v249
  let v259 : BitVec 32 := Scalar.addi v250 c0_i32_101
  let v260 : BitVec 32 := v259
  let v295 : Index := Scalar.indexCast v260
  let c0_i32_67 : BitVec 32 := 0#32
  let c1_i32_69 : BitVec 32 := 1#32
  let arg15 : BitVec 32 := Scf.iv c0_i32_67 c1_i32_69 k0_t3
  let c128_i32_106 : BitVec 32 := 128#32
  let v279 : BitVec 32 := Scalar.muli arg15 c128_i32_106
  let v280 : BitVec 32 := v279
  let v296 : Index := Scalar.indexCast v280
  ![v294.toNat, v295.toNat, v296.toNat]
def k0_mult8 (k0_t4 : Fin k0_t4_loop.trips) : BitVec 32 :=
  let c0_i32_96 : BitVec 32 := 0#32
  let c1_i32_98 : BitVec 32 := 1#32
  let arg16 : BitVec 32 := Scf.iv c0_i32_96 c1_i32_98 k0_t4
  let c32_i32_100 : BitVec 32 := 32#32
  let v249 : BitVec 32 := Scalar.muli arg16 c32_i32_100
  let v250 : BitVec 32 := v249
  let c16_i32_112 : BitVec 32 := 16#32
  let v326 : BitVec 32 := Scalar.addi v250 c16_i32_112
  v326
def k0_mult9 (k0_t4 : Fin k0_t4_loop.trips) : BitVec 32 :=
  let c0_i32_96 : BitVec 32 := 0#32
  let c1_i32_98 : BitVec 32 := 1#32
  let arg16 : BitVec 32 := Scf.iv c0_i32_96 c1_i32_98 k0_t4
  let c32_i32_100 : BitVec 32 := 32#32
  let v249 : BitVec 32 := Scalar.muli arg16 c32_i32_100
  let v250 : BitVec 32 := v249
  let c16_i32_112 : BitVec 32 := 16#32
  let v326 : BitVec 32 := Scalar.addi v250 c16_i32_112
  let v327 : BitVec 32 := v326
  let c2_i32_113 : BitVec 32 := 2#32
  let v328 : BitVec 32 := Scalar.divsi v327 c2_i32_113
  v328
def k0_mult10 (k0_t3 : Fin k0_t3_loop.trips) : BitVec 32 :=
  let c0_i32_67 : BitVec 32 := 0#32
  let c1_i32_69 : BitVec 32 := 1#32
  let arg15 : BitVec 32 := Scf.iv c0_i32_67 c1_i32_69 k0_t3
  let c128_i32_117 : BitVec 32 := 128#32
  let v346 : BitVec 32 := Scalar.muli arg15 c128_i32_117
  v346
def k0_mult11 (k0_t2 : Fin k0_t2_loop.trips) : BitVec 32 :=
  let c0_i32_63 : BitVec 32 := 0#32
  let c1_i32_64 : BitVec 32 := 1#32
  let arg14 : BitVec 32 := Scf.iv c0_i32_63 c1_i32_64 k0_t2
  let c256_i32 : BitVec 32 := 256#32
  let v188 : BitVec 32 := Scalar.muli arg14 c256_i32
  v188
def k0_off7 (k0_t2 : Fin k0_t2_loop.trips) : Fin 3 → Nat :=
  let c0_73 : Index := 0#32
  let c0_74 : Index := 0#32
  let c0_i32_63 : BitVec 32 := 0#32
  let c1_i32_64 : BitVec 32 := 1#32
  let arg14 : BitVec 32 := Scf.iv c0_i32_63 c1_i32_64 k0_t2
  let c256_i32 : BitVec 32 := 256#32
  let v188 : BitVec 32 := Scalar.muli arg14 c256_i32
  let v189 : BitVec 32 := v188
  let v191 : Index := Scalar.indexCast v189
  ![0, 0, v191.toNat]
def k0_off8 (k0_t2 : Fin k0_t2_loop.trips) : Fin 3 → Nat :=
  let c0_i32_63 : BitVec 32 := 0#32
  let c1_i32_64 : BitVec 32 := 1#32
  let arg14 : BitVec 32 := Scf.iv c0_i32_63 c1_i32_64 k0_t2
  let c2_i32_75 : BitVec 32 := 2#32
  let v194 : BitVec 32 := Scalar.remsi arg14 c2_i32_75
  let v195 : Index := Scalar.indexCast v194
  let c0_76 : Index := 0#32
  let c0_77 : Index := 0#32
  ![v195.toNat, 0, 0]
def k0_off9 (k0_t2 : Fin k0_t2_loop.trips) : Fin 3 → Nat :=
  let c1 : Index := 1#32
  let c0_80 : Index := 0#32
  let c0_i32_63 : BitVec 32 := 0#32
  let c1_i32_64 : BitVec 32 := 1#32
  let arg14 : BitVec 32 := Scf.iv c0_i32_63 c1_i32_64 k0_t2
  let c256_i32 : BitVec 32 := 256#32
  let v188 : BitVec 32 := Scalar.muli arg14 c256_i32
  let v189 : BitVec 32 := v188
  let v204 : Index := Scalar.indexCast v189
  ![1, 0, v204.toNat]
def k0_cond2 (i : grid0.Coords) : BitVec 1 :=
  let arg0 : BitVec 32 := BitVec.ofNat 32 (i 0).val
  let c53_i32 : BitVec 32 := 53#32
  let v184 : BitVec 1 := Scalar.cmpi .eq arg0 c53_i32
  let v185 : BitVec 32 := Scalar.extui v184
  let c0_i32_66 : BitVec 32 := 0#32
  let v186 : BitVec 1 := Scalar.cmpi .ne v185 c0_i32_66
  v186

@[reducible] def k0_t5_loop : Scf.Loop 32 :=
  let c0_i32_81 : BitVec 32 := 0#32
  let c20_i32 : BitVec 32 := 20#32
  let v231 : BitVec 32 := Scalar.addi c0_i32_81 c20_i32
  let c1_i32_82 : BitVec 32 := 1#32
  ⟨c0_i32_81, v231, c1_i32_82⟩
def k0_mult12 (k0_t5 : Fin k0_t5_loop.trips) : BitVec 32 :=
  let c0_i32_81 : BitVec 32 := 0#32
  let c1_i32_82 : BitVec 32 := 1#32
  let arg14 : BitVec 32 := Scf.iv c0_i32_81 c1_i32_82 k0_t5
  let c128_i32_84 : BitVec 32 := 128#32
  let v232 : BitVec 32 := Scalar.muli arg14 c128_i32_84
  v232
def k0_off10 (k0_t5 : Fin k0_t5_loop.trips) : Fin 3 → Nat :=
  let c0_85 : Index := 0#32
  let c0_86 : Index := 0#32
  let c0_i32_81 : BitVec 32 := 0#32
  let c1_i32_82 : BitVec 32 := 1#32
  let arg14 : BitVec 32 := Scf.iv c0_i32_81 c1_i32_82 k0_t5
  let c128_i32_84 : BitVec 32 := 128#32
  let v232 : BitVec 32 := Scalar.muli arg14 c128_i32_84
  let v233 : BitVec 32 := v232
  let v234 : Index := Scalar.indexCast v233
  ![0, 0, v234.toNat]
def k0_off11 (k0_t5 : Fin k0_t5_loop.trips) : Fin 3 → Nat :=
  let c1 : Index := 1#32
  let c0_87 : Index := 0#32
  let c0_i32_81 : BitVec 32 := 0#32
  let c1_i32_82 : BitVec 32 := 1#32
  let arg14 : BitVec 32 := Scf.iv c0_i32_81 c1_i32_82 k0_t5
  let c128_i32_84 : BitVec 32 := 128#32
  let v232 : BitVec 32 := Scalar.muli arg14 c128_i32_84
  let v233 : BitVec 32 := v232
  let v239 : Index := Scalar.indexCast v233
  ![1, 0, v239.toNat]
def k0_mult13 (k0_t5 : Fin k0_t5_loop.trips) : BitVec 32 :=
  let c2_i32_93 : BitVec 32 := 2#32
  let c0_i32_81 : BitVec 32 := 0#32
  let c1_i32_82 : BitVec 32 := 1#32
  let arg14 : BitVec 32 := Scf.iv c0_i32_81 c1_i32_82 k0_t5
  let v273 : BitVec 32 := Scalar.muli c2_i32_93 arg14
  let c128_i32_94 : BitVec 32 := 128#32
  let v274 : BitVec 32 := Scalar.muli v273 c128_i32_94
  let c0_i32_95 : BitVec 32 := 0#32
  let v275 : BitVec 32 := Scalar.addi v274 c0_i32_95
  v275
def k0_off12 (k0_t5 : Fin k0_t5_loop.trips) (c0_i32_95 : BitVec 32) : Fin 2 → Nat :=
  let c0_96 : Index := 0#32
  let c2_i32_93 : BitVec 32 := 2#32
  let c0_i32_81 : BitVec 32 := 0#32
  let c1_i32_82 : BitVec 32 := 1#32
  let arg14 : BitVec 32 := Scf.iv c0_i32_81 c1_i32_82 k0_t5
  let v273 : BitVec 32 := Scalar.muli c2_i32_93 arg14
  let c128_i32_94 : BitVec 32 := 128#32
  let v274 : BitVec 32 := Scalar.muli v273 c128_i32_94
  let v275 : BitVec 32 := Scalar.addi v274 c0_i32_95
  let v276 : BitVec 32 := v275
  let v278 : Index := Scalar.indexCast v276
  ![0, v278.toNat]
def k0_mult14 (k0_t5 : Fin k0_t5_loop.trips) : BitVec 32 :=
  let c2_i32_101 : BitVec 32 := 2#32
  let c0_i32_81 : BitVec 32 := 0#32
  let c1_i32_82 : BitVec 32 := 1#32
  let arg14 : BitVec 32 := Scf.iv c0_i32_81 c1_i32_82 k0_t5
  let v309 : BitVec 32 := Scalar.muli c2_i32_101 arg14
  let c128_i32_102 : BitVec 32 := 128#32
  let v310 : BitVec 32 := Scalar.muli v309 c128_i32_102
  let c128_i32_103 : BitVec 32 := 128#32
  let v311 : BitVec 32 := Scalar.addi v310 c128_i32_103
  v311
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2560 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x80 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
abbrev S2x128x27648 : Shape := ⟨3, ![2, 128, 27648]⟩
abbrev S2x128x216 : Shape := ⟨3, ![2, 128, 216]⟩
abbrev S27648x2560 : Shape := ⟨2, ![27648, 2560]⟩
abbrev S27648x80 : Shape := ⟨2, ![27648, 80]⟩
abbrev S8640 : Shape := ⟨1, ![8640]⟩
abbrev S1 : Shape := ⟨1, ![1]⟩
abbrev S32x128 : Shape := ⟨2, ![32, 128]⟩
abbrev S256x27648 : Shape := ⟨2, ![256, 27648]⟩
abbrev S256x216 : Shape := ⟨2, ![256, 216]⟩
abbrev S_ : Shape := ⟨0, ![]⟩
abbrev S256x256 : Shape := ⟨2, ![256, 256]⟩
abbrev S256x5120 : Shape := ⟨2, ![256, 5120]⟩
abbrev S256x512 : Shape := ⟨2, ![256, 512]⟩
abbrev S512x2560 : Shape := ⟨2, ![512, 2560]⟩
abbrev S512x80 : Shape := ⟨2, ![512, 80]⟩
abbrev S256x128 : Shape := ⟨2, ![256, 128]⟩
abbrev S256x2x128 : Shape := ⟨3, ![256, 2, 128]⟩
abbrev S256x1x128 : Shape := ⟨3, ![256, 1, 128]⟩
abbrev S2x512x256 : Shape := ⟨3, ![2, 512, 256]⟩
abbrev S2x256x2560 : Shape := ⟨3, ![2, 256, 2560]⟩
abbrev S8x80 : Shape := ⟨2, ![8, 80]⟩
abbrev S32x80 : Shape := ⟨2, ![32, 80]⟩
abbrev S32x48 : Shape := ⟨2, ![32, 48]⟩
abbrev S16x128 : Shape := ⟨2, ![16, 128]⟩
abbrev S16x2x128 : Shape := ⟨3, ![16, 2, 128]⟩
abbrev S16x1x128 : Shape := ⟨3, ![16, 1, 128]⟩
abbrev S128x256 : Shape := ⟨2, ![128, 256]⟩
abbrev S128x128 : Shape := ⟨2, ![128, 128]⟩
abbrev S256x128x1 : Shape := ⟨3, ![256, 128, 1]⟩
abbrev S8x128 : Shape := ⟨2, ![8, 128]⟩
abbrev S32x128x1 : Shape := ⟨3, ![32, 128, 1]⟩
abbrev S8x2x128 : Shape := ⟨3, ![8, 2, 128]⟩
abbrev S8x1x128 : Shape := ⟨3, ![8, 1, 128]⟩
abbrev S16x128x1 : Shape := ⟨3, ![16, 128, 1]⟩
abbrev S1x16x128 : Shape := ⟨3, ![1, 16, 128]⟩
abbrev S1x256x256 : Shape := ⟨3, ![1, 256, 256]⟩
abbrev S1x512x256 : Shape := ⟨3, ![1, 512, 256]⟩
abbrev S512x256 : Shape := ⟨2, ![512, 256]⟩
abbrev S1x256x128 : Shape := ⟨3, ![1, 256, 128]⟩

abbrev nBuf : Space → Nat
  | .hbm => 13
  | .vmem => 14
  | .smem => 2
  | _ => 0

abbrev bufTy : (tb : Table) → Fin (tcTables nBuf tb) → BufTy
  | .hbm, ⟨0, _⟩ => ⟨S2x128x27648, .fp8e4m3⟩
  | .hbm, ⟨1, _⟩ => ⟨S2x128x216, .f32⟩
  | .hbm, ⟨2, _⟩ => ⟨S27648x2560, .i8⟩
  | .hbm, ⟨3, _⟩ => ⟨S27648x80, .i8⟩
  | .hbm, ⟨4, _⟩ => ⟨S8640, .f32⟩
  | .hbm, ⟨5, _⟩ => ⟨S1, .f32⟩
  | .hbm, ⟨6, _⟩ => ⟨S32x128, .i8⟩
  | .hbm, ⟨7, _⟩ => ⟨S256x27648, .fp8e4m3⟩
  | .hbm, ⟨8, _⟩ => ⟨S256x216, .f32⟩
  | .hbm, ⟨9, _⟩ => ⟨S_, .i32⟩
  | .hbm, ⟨10, _⟩ => ⟨S_, .f32⟩
  | .hbm, ⟨11, _⟩ => ⟨S256x256, .f32⟩
  | .hbm, ⟨12, _⟩ => ⟨S256x5120, .bf16⟩
  | .local _ .vmem, ⟨0, _⟩ => ⟨S32x128, .i8⟩
  | .local _ .vmem, ⟨1, _⟩ => ⟨S256x512, .fp8e4m3⟩
  | .local _ .vmem, ⟨2, _⟩ => ⟨S256x512, .fp8e4m3⟩
  | .local _ .vmem, ⟨3, _⟩ => ⟨S256x256, .f32⟩
  | .local _ .vmem, ⟨4, _⟩ => ⟨S512x2560, .i8⟩
  | .local _ .vmem, ⟨5, _⟩ => ⟨S512x2560, .i8⟩
  | .local _ .vmem, ⟨6, _⟩ => ⟨S512x80, .i8⟩
  | .local _ .vmem, ⟨7, _⟩ => ⟨S512x80, .i8⟩
  | .local _ .vmem, ⟨8, _⟩ => ⟨S256x5120, .bf16⟩
  | .local _ .vmem, ⟨9, _⟩ => ⟨S256x512, .bf16⟩
  | .local _ .vmem, ⟨10, _⟩ => ⟨S256x2x128, .bf16⟩
  | .local _ .vmem, ⟨11, _⟩ => ⟨S2x512x256, .bf16⟩
  | .local _ .vmem, ⟨12, _⟩ => ⟨S2x512x256, .bf16⟩
  | .local _ .vmem, ⟨13, _⟩ => ⟨S2x256x2560, .f32⟩
  | .local _ .smem, ⟨0, _⟩ => ⟨S8640, .f32⟩
  | .local _ .smem, ⟨1, _⟩ => ⟨S1, .f32⟩
  | _, _ => ⟨S2x128x27648, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![54], ![false]⟩

@[reducible] def k0_t1_loop : Scf.Loop 32 :=
  let c0_i32_1 : BitVec 32 := 0#32
  let c16_i32 : BitVec 32 := 16#32
  let v9 : BitVec 32 := Scalar.addi c0_i32_1 c16_i32
  let c1_i32 : BitVec 32 := 1#32
  ⟨c0_i32_1, v9, c1_i32⟩
def k0_mult1 (k0_t1 : Fin k0_t1_loop.trips) : BitVec 32 :=
  let c0_i32_1 : BitVec 32 := 0#32
  let c1_i32 : BitVec 32 := 1#32
  let arg14 : BitVec 32 := Scf.iv c0_i32_1 c1_i32 k0_t1
  let c32_i32 : BitVec 32 := 32#32
  let v187 : BitVec 32 := Scalar.muli arg14 c32_i32
  v187
def k0_off1 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c32_i32 : BitVec 32 := 32#32
  let v187 : BitVec 32 := Scalar.muli arg14 c32_i32
  let v188 : BitVec 32 := v187
  let v192 : Index := Scalar.indexCast v188
  let c0_69 : Index := 0#32
  ![v192.toNat, 0]
def k0_off2 (i : grid0.Coords) (k0_t1 : Fin k0_t1_loop.trips) (c0_i32_70 : BitVec 32) : Fin 1 → Nat :=
  let arg0 : BitVec 32 := BitVec.ofNat 32 (i 0).val
  let c16_i32_67 : BitVec 32 := 16#32
  let v189 : BitVec 32 := Scalar.muli arg0 c16_i32_67
  let c0_i32_1 : BitVec 32 := 0#32
  let c1_i32 : BitVec 32 := 1#32
  let arg14 : BitVec 32 := Scf.iv c0_i32_1 c1_i32 k0_t1
  let v190 : BitVec 32 := Scalar.addi v189 arg14
  let c10_i32_68 : BitVec 32 := 10#32
  let v191 : BitVec 32 := Scalar.muli v190 c10_i32_68
  let v195 : BitVec 32 := Scalar.addi v191 c0_i32_70
  let v196 : Index := Scalar.indexCast v195
  ![v196.toNat]
def k0_mult2 (k0_t1 : Fin k0_t1_loop.trips) : BitVec 32 :=
  let c0_i32_1 : BitVec 32 := 0#32
  let c1_i32 : BitVec 32 := 1#32
  let arg14 : BitVec 32 := Scf.iv c0_i32_1 c1_i32 k0_t1
  let c32_i32 : BitVec 32 := 32#32
  let v187 : BitVec 32 := Scalar.muli arg14 c32_i32
  let v188 : BitVec 32 := v187
  let c2_i32_82 : BitVec 32 := 2#32
  let v288 : BitVec 32 := Scalar.divsi v188 c2_i32_82
  v288
def k0_off3 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let c32_i32 : BitVec 32 := 32#32
  let v187 : BitVec 32 := Scalar.muli arg14 c32_i32
  let v188 : BitVec 32 := v187
  let c2_i32_82 : BitVec 32 := 2#32
  let v288 : BitVec 32 := Scalar.divsi v188 c2_i32_82
  let v289 : BitVec 32 := v288
  let v290 : Index := Scalar.indexCast v289
  let c0_83 : Index := 0#32
  ![v290.toNat, 0, 0]
@[reducible] def k0_t2_loop : Scf.Loop 32 :=
  let c0_i32_63 : BitVec 32 := 0#32
  let c10_i32 : BitVec 32 := 10#32
  let v183 : BitVec 32 := Scalar.addi c0_i32_63 c10_i32
  let c1_i32_64 : BitVec 32 := 1#32
  ⟨c0_i32_63, v183, c1_i32_64⟩
@[reducible] def k0_t3_loop : Scf.Loop 32 :=
  let c0_i32_67 : BitVec 32 := 0#32
  let c2_i32_68 : BitVec 32 := 2#32
  let v187 : BitVec 32 := Scalar.addi c0_i32_67 c2_i32_68
  let c1_i32_69 : BitVec 32 := 1#32
  ⟨c0_i32_67, v187, c1_i32_69⟩
def k0_mult3 (k0_t2 : Fin k0_t2_loop.trips) (k0_t3 : Fin k0_t3_loop.trips) : BitVec 32 :=
  let c0_i32_63 : BitVec 32 := 0#32
  let c1_i32_64 : BitVec 32 := 1#32
  let arg14 : BitVec 32 := Scf.iv c0_i32_63 c1_i32_64 k0_t2
  let c256_i32_87 : BitVec 32 := 256#32
  let v217 : BitVec 32 := Scalar.muli arg14 c256_i32_87
  let c0_i32_67 : BitVec 32 := 0#32
  let c1_i32_69 : BitVec 32 := 1#32
  let arg15 : BitVec 32 := Scf.iv c0_i32_67 c1_i32_69 k0_t3
  let c128_i32_88 : BitVec 32 := 128#32
  let v218 : BitVec 32 := Scalar.muli arg15 c128_i32_88
  let v219 : BitVec 32 := Scalar.addi v217 v218
  v219
@[reducible] def k0_t4_loop : Scf.Loop 32 :=
  let c0_i32_96 : BitVec 32 := 0#32
  let c16_i32_97 : BitVec 32 := 16#32
  let v248 : BitVec 32 := Scalar.addi c0_i32_96 c16_i32_97
  let c1_i32_98 : BitVec 32 := 1#32
  ⟨c0_i32_96, v248, c1_i32_98⟩
def k0_mult4 (k0_t4 : Fin k0_t4_loop.trips) : BitVec 32 :=
  let c0_i32_96 : BitVec 32 := 0#32
  let c1_i32_98 : BitVec 32 := 1#32
  let arg16 : BitVec 32 := Scf.iv c0_i32_96 c1_i32_98 k0_t4
  let c32_i32_100 : BitVec 32 := 32#32
  let v249 : BitVec 32 := Scalar.muli arg16 c32_i32_100
  v249
def k0_off4 (k0_t2 : Fin k0_t2_loop.trips) (k0_t3 : Fin k0_t3_loop.trips) (k0_t4 : Fin k0_t4_loop.trips) : Fin 2 → Nat :=
  let c0_i32_96 : BitVec 32 := 0#32
  let c1_i32_98 : BitVec 32 := 1#32
  let arg16 : BitVec 32 := Scf.iv c0_i32_96 c1_i32_98 k0_t4
  let c32_i32_100 : BitVec 32 := 32#32
  let v249 : BitVec 32 := Scalar.muli arg16 c32_i32_100
  let v250 : BitVec 32 := v249
  let v251 : Index := Scalar.indexCast v250
  let c0_i32_63 : BitVec 32 := 0#32
  let c1_i32_64 : BitVec 32 := 1#32
  let arg14 : BitVec 32 := Scf.iv c0_i32_63 c1_i32_64 k0_t2
  let c256_i32_87 : BitVec 32 := 256#32
  let v217 : BitVec 32 := Scalar.muli arg14 c256_i32_87
  let c0_i32_67 : BitVec 32 := 0#32
  let c1_i32_69 : BitVec 32 := 1#32
  let arg15 : BitVec 32 := Scf.iv c0_i32_67 c1_i32_69 k0_t3
  let c128_i32_88 : BitVec 32 := 128#32
  let v218 : BitVec 32 := Scalar.muli arg15 c128_i32_88
  let v219 : BitVec 32 := Scalar.addi v217 v218
  let v220 : BitVec 32 := v219
  let v252 : Index := Scalar.indexCast v220
  ![v251.toNat, v252.toNat]
def k0_mult5 (k0_t4 : Fin k0_t4_loop.trips) : BitVec 32 :=
  let c0_i32_96 : BitVec 32 := 0#32
  let c1_i32_98 : BitVec 32 := 1#32
  let arg16 : BitVec 32 := Scf.iv c0_i32_96 c1_i32_98 k0_t4
  let c32_i32_100 : BitVec 32 := 32#32
  let v249 : BitVec 32 := Scalar.muli arg16 c32_i32_100
  let v250 : BitVec 32 := v249
  let c0_i32_101 : BitVec 32 := 0#32
  let v259 : BitVec 32 := Scalar.addi v250 c0_i32_101
  v259
def k0_mult6 (k0_t4 : Fin k0_t4_loop.trips) : BitVec 32 :=
  let c0_i32_96 : BitVec 32 := 0#32
  let c1_i32_98 : BitVec 32 := 1#32
  let arg16 : BitVec 32 := Scf.iv c0_i32_96 c1_i32_98 k0_t4
  let c32_i32_100 : BitVec 32 := 32#32
  let v249 : BitVec 32 := Scalar.muli arg16 c32_i32_100
  let v250 : BitVec 32 := v249
  let c0_i32_101 : BitVec 32 := 0#32
  let v259 : BitVec 32 := Scalar.addi v250 c0_i32_101
  let v260 : BitVec 32 := v259
  let c2_i32_102 : BitVec 32 := 2#32
  let v261 : BitVec 32 := Scalar.divsi v260 c2_i32_102
  v261
def k0_off5 (k0_t4 : Fin k0_t4_loop.trips) (c0_i32_101 : BitVec 32) : Fin 3 → Nat :=
  let c0_i32_96 : BitVec 32 := 0#32
  let c1_i32_98 : BitVec 32 := 1#32
  let arg16 : BitVec 32 := Scf.iv c0_i32_96 c1_i32_98 k0_t4
  let c32_i32_100 : BitVec 32 := 32#32
  let v249 : BitVec 32 := Scalar.muli arg16 c32_i32_100
  let v250 : BitVec 32 := v249
  let v259 : BitVec 32 := Scalar.addi v250 c0_i32_101
  let v260 : BitVec 32 := v259
  let c2_i32_102 : BitVec 32 := 2#32
  let v261 : BitVec 32 := Scalar.divsi v260 c2_i32_102
  let v262 : BitVec 32 := v261
  let v263 : Index := Scalar.indexCast v262
  let c0_103 : Index := 0#32
  ![v263.toNat, 0, 0]
def k0_mult7 (k0_t3 : Fin k0_t3_loop.trips) : BitVec 32 :=
  let c0_i32_67 : BitVec 32 := 0#32
  let c1_i32_69 : BitVec 32 := 1#32
  let arg15 : BitVec 32 := Scf.iv c0_i32_67 c1_i32_69 k0_t3
  let c128_i32_106 : BitVec 32 := 128#32
  let v279 : BitVec 32 := Scalar.muli arg15 c128_i32_106
  v279
def k0_off6 (k0_t2 : Fin k0_t2_loop.trips) (k0_t3 : Fin k0_t3_loop.trips) (k0_t4 : Fin k0_t4_loop.trips) (c0_i32_101 : BitVec 32) : Fin 3 → Nat :=
  let c0_i32_63 : BitVec 32 := 0#32
  let c1_i32_64 : BitVec 32 := 1#32
  let arg14 : BitVec 32 := Scf.iv c0_i32_63 c1_i32_64 k0_t2
  let c2_i32_107 : BitVec 32 := 2#32
  let v293 : BitVec 32 := Scalar.remsi arg14 c2_i32_107
  let v294 : Index := Scalar.indexCast v293
  let c0_i32_96 : BitVec 32 := 0#32
  let c1_i32_98 : BitVec 32 := 1#32
  let arg16 : BitVec 32 := Scf.iv c0_i32_96 c1_i32_98 k0_t4
  let c32_i32_100 : BitVec 32 := 32#32
  let v249 : BitVec 32 := Scalar.muli arg16 c32_i32_100
  let v250 : BitVec 32 := v249
  let v259 : BitVec 32 := Scalar.addi v250 c0_i32_101
  let v260 : BitVec 32 := v259
  let v295 : Index := Scalar.indexCast v260
  let c0_i32_67 : BitVec 32 := 0#32
  let c1_i32_69 : BitVec 32 := 1#32
  let arg15 : BitVec 32 := Scf.iv c0_i32_67 c1_i32_69 k0_t3
  let c128_i32_106 : BitVec 32 := 128#32
  let v279 : BitVec 32 := Scalar.muli arg15 c128_i32_106
  let v280 : BitVec 32 := v279
  let v296 : Index := Scalar.indexCast v280
  ![v294.toNat, v295.toNat, v296.toNat]
def k0_mult8 (k0_t4 : Fin k0_t4_loop.trips) : BitVec 32 :=
  let c0_i32_96 : BitVec 32 := 0#32
  let c1_i32_98 : BitVec 32 := 1#32
  let arg16 : BitVec 32 := Scf.iv c0_i32_96 c1_i32_98 k0_t4
  let c32_i32_100 : BitVec 32 := 32#32
  let v249 : BitVec 32 := Scalar.muli arg16 c32_i32_100
  let v250 : BitVec 32 := v249
  let c16_i32_112 : BitVec 32 := 16#32
  let v326 : BitVec 32 := Scalar.addi v250 c16_i32_112
  v326
def k0_mult9 (k0_t4 : Fin k0_t4_loop.trips) : BitVec 32 :=
  let c0_i32_96 : BitVec 32 := 0#32
  let c1_i32_98 : BitVec 32 := 1#32
  let arg16 : BitVec 32 := Scf.iv c0_i32_96 c1_i32_98 k0_t4
  let c32_i32_100 : BitVec 32 := 32#32
  let v249 : BitVec 32 := Scalar.muli arg16 c32_i32_100
  let v250 : BitVec 32 := v249
  let c16_i32_112 : BitVec 32 := 16#32
  let v326 : BitVec 32 := Scalar.addi v250 c16_i32_112
  let v327 : BitVec 32 := v326
  let c2_i32_113 : BitVec 32 := 2#32
  let v328 : BitVec 32 := Scalar.divsi v327 c2_i32_113
  v328
def k0_mult10 (k0_t3 : Fin k0_t3_loop.trips) : BitVec 32 :=
  let c0_i32_67 : BitVec 32 := 0#32
  let c1_i32_69 : BitVec 32 := 1#32
  let arg15 : BitVec 32 := Scf.iv c0_i32_67 c1_i32_69 k0_t3
  let c128_i32_117 : BitVec 32 := 128#32
  let v346 : BitVec 32 := Scalar.muli arg15 c128_i32_117
  v346
def k0_mult11 (k0_t2 : Fin k0_t2_loop.trips) : BitVec 32 :=
  let c0_i32_63 : BitVec 32 := 0#32
  let c1_i32_64 : BitVec 32 := 1#32
  let arg14 : BitVec 32 := Scf.iv c0_i32_63 c1_i32_64 k0_t2
  let c256_i32 : BitVec 32 := 256#32
  let v188 : BitVec 32 := Scalar.muli arg14 c256_i32
  v188
def k0_off7 (k0_t2 : Fin k0_t2_loop.trips) : Fin 3 → Nat :=
  let c0_73 : Index := 0#32
  let c0_74 : Index := 0#32
  let c0_i32_63 : BitVec 32 := 0#32
  let c1_i32_64 : BitVec 32 := 1#32
  let arg14 : BitVec 32 := Scf.iv c0_i32_63 c1_i32_64 k0_t2
  let c256_i32 : BitVec 32 := 256#32
  let v188 : BitVec 32 := Scalar.muli arg14 c256_i32
  let v189 : BitVec 32 := v188
  let v191 : Index := Scalar.indexCast v189
  ![0, 0, v191.toNat]
def k0_off8 (k0_t2 : Fin k0_t2_loop.trips) : Fin 3 → Nat :=
  let c0_i32_63 : BitVec 32 := 0#32
  let c1_i32_64 : BitVec 32 := 1#32
  let arg14 : BitVec 32 := Scf.iv c0_i32_63 c1_i32_64 k0_t2
  let c2_i32_75 : BitVec 32 := 2#32
  let v194 : BitVec 32 := Scalar.remsi arg14 c2_i32_75
  let v195 : Index := Scalar.indexCast v194
  let c0_76 : Index := 0#32
  let c0_77 : Index := 0#32
  ![v195.toNat, 0, 0]
def k0_off9 (k0_t2 : Fin k0_t2_loop.trips) : Fin 3 → Nat :=
  let c1 : Index := 1#32
  let c0_80 : Index := 0#32
  let c0_i32_63 : BitVec 32 := 0#32
  let c1_i32_64 : BitVec 32 := 1#32
  let arg14 : BitVec 32 := Scf.iv c0_i32_63 c1_i32_64 k0_t2
  let c256_i32 : BitVec 32 := 256#32
  let v188 : BitVec 32 := Scalar.muli arg14 c256_i32
  let v189 : BitVec 32 := v188
  let v204 : Index := Scalar.indexCast v189
  ![1, 0, v204.toNat]
def k0_cond2 (i : grid0.Coords) : BitVec 1 :=
  let arg0 : BitVec 32 := BitVec.ofNat 32 (i 0).val
  let c53_i32 : BitVec 32 := 53#32
  let v184 : BitVec 1 := Scalar.cmpi .eq arg0 c53_i32
  let v185 : BitVec 32 := Scalar.extui v184
  let c0_i32_66 : BitVec 32 := 0#32
  let v186 : BitVec 1 := Scalar.cmpi .ne v185 c0_i32_66
  v186

@[reducible] def k0_t5_loop : Scf.Loop 32 :=
  let c0_i32_81 : BitVec 32 := 0#32
  let c20_i32 : BitVec 32 := 20#32
  let v231 : BitVec 32 := Scalar.addi c0_i32_81 c20_i32
  let c1_i32_82 : BitVec 32 := 1#32
  ⟨c0_i32_81, v231, c1_i32_82⟩
def k0_mult12 (k0_t5 : Fin k0_t5_loop.trips) : BitVec 32 :=
  let c0_i32_81 : BitVec 32 := 0#32
  let c1_i32_82 : BitVec 32 := 1#32
  let arg14 : BitVec 32 := Scf.iv c0_i32_81 c1_i32_82 k0_t5
  let c128_i32_84 : BitVec 32 := 128#32
  let v232 : BitVec 32 := Scalar.muli arg14 c128_i32_84
  v232
def k0_off10 (k0_t5 : Fin k0_t5_loop.trips) : Fin 3 → Nat :=
  let c0_85 : Index := 0#32
  let c0_86 : Index := 0#32
  let c0_i32_81 : BitVec 32 := 0#32
  let c1_i32_82 : BitVec 32 := 1#32
  let arg14 : BitVec 32 := Scf.iv c0_i32_81 c1_i32_82 k0_t5
  let c128_i32_84 : BitVec 32 := 128#32
  let v232 : BitVec 32 := Scalar.muli arg14 c128_i32_84
  let v233 : BitVec 32 := v232
  let v234 : Index := Scalar.indexCast v233
  ![0, 0, v234.toNat]
def k0_off11 (k0_t5 : Fin k0_t5_loop.trips) : Fin 3 → Nat :=
  let c1 : Index := 1#32
  let c0_87 : Index := 0#32
  let c0_i32_81 : BitVec 32 := 0#32
  let c1_i32_82 : BitVec 32 := 1#32
  let arg14 : BitVec 32 := Scf.iv c0_i32_81 c1_i32_82 k0_t5
  let c128_i32_84 : BitVec 32 := 128#32
  let v232 : BitVec 32 := Scalar.muli arg14 c128_i32_84
  let v233 : BitVec 32 := v232
  let v239 : Index := Scalar.indexCast v233
  ![1, 0, v239.toNat]
def k0_mult13 (k0_t5 : Fin k0_t5_loop.trips) : BitVec 32 :=
  let c2_i32_93 : BitVec 32 := 2#32
  let c0_i32_81 : BitVec 32 := 0#32
  let c1_i32_82 : BitVec 32 := 1#32
  let arg14 : BitVec 32 := Scf.iv c0_i32_81 c1_i32_82 k0_t5
  let v273 : BitVec 32 := Scalar.muli c2_i32_93 arg14
  let c128_i32_94 : BitVec 32 := 128#32
  let v274 : BitVec 32 := Scalar.muli v273 c128_i32_94
  let c0_i32_95 : BitVec 32 := 0#32
  let v275 : BitVec 32 := Scalar.addi v274 c0_i32_95
  v275
def k0_off12 (k0_t5 : Fin k0_t5_loop.trips) (c0_i32_95 : BitVec 32) : Fin 2 → Nat :=
  let c0_96 : Index := 0#32
  let c2_i32_93 : BitVec 32 := 2#32
  let c0_i32_81 : BitVec 32 := 0#32
  let c1_i32_82 : BitVec 32 := 1#32
  let arg14 : BitVec 32 := Scf.iv c0_i32_81 c1_i32_82 k0_t5
  let v273 : BitVec 32 := Scalar.muli c2_i32_93 arg14
  let c128_i32_94 : BitVec 32 := 128#32
  let v274 : BitVec 32 := Scalar.muli v273 c128_i32_94
  let v275 : BitVec 32 := Scalar.addi v274 c0_i32_95
  let v276 : BitVec 32 := v275
  let v278 : Index := Scalar.indexCast v276
  ![0, v278.toNat]
def k0_mult14 (k0_t5 : Fin k0_t5_loop.trips) : BitVec 32 :=
  let c2_i32_101 : BitVec 32 := 2#32
  let c0_i32_81 : BitVec 32 := 0#32
  let c1_i32_82 : BitVec 32 := 1#32
  let arg14 : BitVec 32 := Scf.iv c0_i32_81 c1_i32_82 k0_t5
  let v309 : BitVec 32 := Scalar.muli c2_i32_101 arg14
  let c128_i32_102 : BitVec 32 := 128#32
  let v310 : BitVec 32 := Scalar.muli v309 c128_i32_102
  let c128_i32_103 : BitVec 32 := 128#32
  let v311 : BitVec 32 := Scalar.addi v310 c128_i32_103
  v311
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2560 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x80 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2x128x27648 : Shape := ⟨3, ![2, 128, 27648]⟩
abbrev S2x128x216 : Shape := ⟨3, ![2, 128, 216]⟩
abbrev S27648x2560 : Shape := ⟨2, ![27648, 2560]⟩
abbrev S27648x80 : Shape := ⟨2, ![27648, 80]⟩
abbrev S8640 : Shape := ⟨1, ![8640]⟩
abbrev S1 : Shape := ⟨1, ![1]⟩
abbrev S256x5120 : Shape := ⟨2, ![256, 5120]⟩
abbrev S2x128x216x128 : Shape := ⟨4, ![2, 128, 216, 128]⟩
abbrev S2x128x216x1 : Shape := ⟨4, ![2, 128, 216, 1]⟩
abbrev S8640x256 : Shape := ⟨2, ![8640, 256]⟩
abbrev S8640x1 : Shape := ⟨2, ![8640, 1]⟩
abbrev S27648x80x32 : Shape := ⟨3, ![27648, 80, 32]⟩
abbrev S27648x80x1 : Shape := ⟨3, ![27648, 80, 1]⟩
abbrev S2x128x2560 : Shape := ⟨3, ![2, 128, 2560]⟩
abbrev S2x128x2560x1 : Shape := ⟨4, ![2, 128, 2560, 1]⟩
abbrev S2x128x2560x2 : Shape := ⟨4, ![2, 128, 2560, 2]⟩
abbrev S2x128x5120 : Shape := ⟨3, ![2, 128, 5120]⟩

abbrev nBuf : Space → Nat
  | .hbm => 7
  | .vmem => 6
  | .smem => 1
  | _ => 0

abbrev bufTy : (tb : Table) → Fin (tcTables nBuf tb) → BufTy
  | .hbm, ⟨0, _⟩ => ⟨S2x128x27648, .fp8e4m3⟩
  | .hbm, ⟨1, _⟩ => ⟨S2x128x216, .f32⟩
  | .hbm, ⟨2, _⟩ => ⟨S27648x2560, .i8⟩
  | .hbm, ⟨3, _⟩ => ⟨S27648x80, .i8⟩
  | .hbm, ⟨4, _⟩ => ⟨S8640, .f32⟩
  | .hbm, ⟨5, _⟩ => ⟨S1, .f32⟩
  | .hbm, ⟨6, _⟩ => ⟨S256x5120, .bf16⟩
  | .local _ .vmem, ⟨0, _⟩ => ⟨S2x128x27648, .fp8e4m3⟩
  | .local _ .vmem, ⟨1, _⟩ => ⟨S2x128x216, .f32⟩
  | .local _ .vmem, ⟨2, _⟩ => ⟨S27648x2560, .i8⟩
  | .local _ .vmem, ⟨3, _⟩ => ⟨S27648x80, .i8⟩
  | .local _ .vmem, ⟨4, _⟩ => ⟨S8640, .f32⟩
  | .local _ .vmem, ⟨5, _⟩ => ⟨S256x5120, .bf16⟩
  | .local _ .smem, ⟨0, _⟩ => ⟨S1, .f32⟩
  | _, _ => ⟨S2x128x27648, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg6_0 : Ref sig .tc := ⟨.vmem, 5, rfl⟩
abbrev cc0_stg5_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x128x27648 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S27648x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S27648x80 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelLoops.lean ====
/- The two outer loops over the weight columns of `Kernel`, each gone through once at a symbolic trip: what the buffers they
   touch are known to hold. The scratch they fill is at some contents; the blocks they read stay as they are. -/
module

public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option warn.classDefReducibility false in
/-- One half block of 128 lanes at a time: the quantised weights and the scales are read, the two tables of decoded
    weights are written. -/
@[sl_loop] def loopInv_k0_t3 (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x128 .i32) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (v166 : Vec F S32x128 .i8) (k0_t2 : Fin k0_t2_loop.trips) (arg14 : BitVec 32)
    (X6 : BufTy.Contents (Elt F) arg6.view.ty) (X10 : BufTy.Contents (Elt F) arg10.view.ty) :
    LoopInvTy_k0_t3 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v166 k0_t2 arg14 where
  inv _ _ := iprop((arg6.view.loc (c : Thread nD τ) ↦[arg6.view.set]{fullShare} X6) ∗ (arg10.view.loc (c : Thread nD τ) ↦[arg10.view.set]{fullShare} X10) ∗ (∃ f, (arg11.view.loc (c : Thread nD τ) ↦[arg11.view.set]{fullShare} f)) ∗ (∃ f, (arg12.view.loc (c : Thread nD τ) ↦[arg12.view.set]{fullShare} f)))
  step k acc := by
    unfold k0_t3_body
    iintro ⟨H6, H10, ⟨%f11, H11⟩, ⟨%f12, H12⟩⟩
    sl_exec
    sl_step
    isplitl [H6]; · iexact H6
    isplitl [H10]; · iexact H10
    isplitl [H11]; · iexists _; iexact H11
    iexists _; iexact H12

set_option warn.classDefReducibility false in
/-- One block of 256 weight columns at a time: after the decoding, both halves of the accumulator get the product. -/
@[sl_loop] def loopInv_k0_t2 (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x128 .i32) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (v166 : Vec F S32x128 .i8)
    (X6 : BufTy.Contents (Elt F) arg6.view.ty) (X9 : BufTy.Contents (Elt F) arg9.view.ty) (X10 : BufTy.Contents (Elt F) arg10.view.ty) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v166 where
  inv _ _ := iprop((arg6.view.loc (c : Thread nD τ) ↦[arg6.view.set]{fullShare} X6) ∗ (arg9.view.loc (c : Thread nD τ) ↦[arg9.view.set]{fullShare} X9) ∗ (arg10.view.loc (c : Thread nD τ) ↦[arg10.view.set]{fullShare} X10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))
  step k acc := by
    unfold k0_t2_body
    iintro ⟨H6, H9, H10, ⟨%f11, H11⟩, ⟨%f12, H12⟩, ⟨%f13, H13⟩⟩
    sl_exec
    sl_step
    isplitl [H6]; · iexact H6
    isplitl [H9]; · iexact H9
    isplitl [H10]; · iexact H10
    isplitl [H11]; · iexists _; iexact H11
    isplitl [H12]; · iexists _; iexact H12
    iexists _; iexact H13

end Cert.Kernel.Hand

end
-- ==== Proof.KernelRun.lean ====
/- The whole body of `Kernel` at one grid point, on any staging buffers: the blocks it reads are given back as they were. -/
module

public import proofs.«01_k».proof.Proof.KernelLoops
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The condition of the first grid point, from the grid coordinates. -/
abbrev cond0 (i : grid0.Coords) : Prop := (Scalar.cmpi .ne (Scalar.extui (Scalar.cmpi .eq (BitVec.ofNat 32 (i 0).val) 0#32)) 0#32) = 1#1
/-- The condition of the last grid point. -/
abbrev cond1 (i : grid0.Coords) : Prop := k0_cond2 i = 1#1

set_option maxHeartbeats 4000000 in
/-- The body at the first point: run once; every block it reads comes back as it was, every buffer it writes at some contents. -/
theorem runA (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x128 .i32) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (hc0 : cond0 i) (hc1 : ¬cond1 i)
    (x0 : Vec F S8640 .f32) (x1 : Vec F S1 .f32) (x2 : Vec F S32x128 .i8) (x3 : Vec F S256x512 .fp8e4m3) (x4 : Vec F S256x256 .f32) (x5 : Vec F S512x2560 .i8) (x6 : Vec F S512x80 .i8) (E : Set ℕ) (hE : E = Set.univ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_nf4_dx i arg1 harg1 arg2 harg2 arg3 harg3 arg4 harg4 arg5 harg5 arg6 harg6 arg7 harg7 arg8 harg8 arg9 harg9 arg10 harg10 arg11 harg11 arg12 harg12 arg13 harg13) K := by
  subst hE
  simp only [cc0_nf4_dx_eq_skeleton]; unfold cc0_nf4_dx_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  · iexists _, _; isplitr; swap; · iexact H13
    ipureintro; rfl

set_option maxHeartbeats 4000000 in
/-- The body at a point in between: run once; every block it reads comes back as it was, every buffer it writes at some contents. -/
theorem runB (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x128 .i32) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (hc0 : ¬cond0 i) (hc1 : ¬cond1 i)
    (x0 : Vec F S8640 .f32) (x1 : Vec F S1 .f32) (x2 : Vec F S32x128 .i8) (x3 : Vec F S256x512 .fp8e4m3) (x4 : Vec F S256x256 .f32) (x5 : Vec F S512x2560 .i8) (x6 : Vec F S512x80 .i8) (E : Set ℕ) (hE : E = Set.univ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_nf4_dx i arg1 harg1 arg2 harg2 arg3 harg3 arg4 harg4 arg5 harg5 arg6 harg6 arg7 harg7 arg8 harg8 arg9 harg9 arg10 harg10 arg11 harg11 arg12 harg12 arg13 harg13) K := by
  subst hE
  simp only [cc0_nf4_dx_eq_skeleton]; unfold cc0_nf4_dx_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  · iexists _, _; isplitr; swap; · iexact H13
    ipureintro; rfl

set_option maxHeartbeats 4000000 in
/-- The body at the last point: run once; every block it reads comes back as it was, every buffer it writes at some contents. -/
theorem runC (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x128 .i32) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (hc0 : ¬cond0 i) (hc1 : cond1 i)
    (x0 : Vec F S8640 .f32) (x1 : Vec F S1 .f32) (x2 : Vec F S32x128 .i8) (x3 : Vec F S256x512 .fp8e4m3) (x4 : Vec F S256x256 .f32) (x5 : Vec F S512x2560 .i8) (x6 : Vec F S512x80 .i8) (E : Set ℕ) (hE : E = Set.univ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_nf4_dx i arg1 harg1 arg2 harg2 arg3 harg3 arg4 harg4 arg5 harg5 arg6 harg6 arg7 harg7 arg8 harg8 arg9 harg9 arg10 harg10 arg11 harg11 arg12 harg12 arg13 harg13) K := by
  subst hE
  simp only [cc0_nf4_dx_eq_skeleton]; unfold cc0_nf4_dx_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  · iexists _, _; isplitr; swap; · iexact H13
    ipureintro; rfl

end Cert.Kernel.Hand

end
-- ==== Proof.KernelFrame.lean ====
/- The frame of `Kernel`: it runs to completion from any memory, leaves its arguments as they were and every semaphore
   counter at zero. The result window is left at some contents here. -/
module

public import proofs.«01_k».proof.Proof.KernelRun

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The first condition holds at the first point only. -/
theorem hcond0 : ∀ t : Fin cfg0.N, cond0 (grid0.coords t) ↔ t.val % 54 = 0 :=
  (fun t => by
    have ht : t.val < 54 := Nat.lt_of_lt_of_eq t.isLt N_0
    have e0 : (grid0.coords t 0).val = t.val / 1 % 54 := Pipeline.Grid.coords_val t 0 (by decide) rfl
    simp only [cond0, e0]
    word_cmp
   : ∀ t : Fin grid0.N, cond0 (grid0.coords t) ↔ t.val % 54 = 0)

/-- The second condition holds at the last point only. -/
theorem hcond1 : ∀ t : Fin cfg0.N, cond1 (grid0.coords t) ↔ t.val % 54 = 53 :=
  (fun t => by
    have ht : t.val < 54 := Nat.lt_of_lt_of_eq t.isLt N_0
    have e0 : (grid0.coords t 0).val = t.val / 1 % 54 := Pipeline.Grid.coords_val t 0 (by decide) rfl
    simp only [cond1, k0_cond2, e0]
    word_cmp
   : ∀ t : Fin grid0.N, cond1 (grid0.coords t) ↔ t.val % 54 = 53)

/-- The staging buffer of window 0 at point `t`, and that it is whole. -/
abbrev ms0 (t : Fin cfg0.N) : Memref sig .tc .smem S8640 .f32 := win0_0.stage (cfg0.slots t 0)
abbrev hs0 (t : Fin cfg0.N) : (ms0 t).IsWhole := hstage0_0 ((cfg0.slots t 0).cast nbuf0_0)
/-- The staging buffer of window 1 at point `t`, and that it is whole. -/
abbrev ms1 (t : Fin cfg0.N) : Memref sig .tc .smem S1 .f32 := win0_1.stage (cfg0.slots t 1)
abbrev hs1 (t : Fin cfg0.N) : (ms1 t).IsWhole := hstage0_1 ((cfg0.slots t 1).cast nbuf0_1)
/-- The staging buffer of window 2 at point `t`, and that it is whole. -/
abbrev ms2 (t : Fin cfg0.N) : Memref sig .tc .vmem S32x128 .i8 := win0_2.stage (cfg0.slots t 2)
abbrev hs2 (t : Fin cfg0.N) : (ms2 t).IsWhole := hstage0_2 ((cfg0.slots t 2).cast nbuf0_2)
/-- The staging buffer of window 3 at point `t`, and that it is whole. -/
abbrev ms3 (t : Fin cfg0.N) : Memref sig .tc .vmem S256x512 .fp8e4m3 := win0_3.stage (cfg0.slots t 3)
abbrev hs3 (t : Fin cfg0.N) : (ms3 t).IsWhole := hstage0_3 ((cfg0.slots t 3).cast nbuf0_3)
/-- The staging buffer of window 4 at point `t`, and that it is whole. -/
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
/-- The staging buffer of window 5 at point `t`, and that it is whole. -/
abbrev ms5 (t : Fin cfg0.N) : Memref sig .tc .vmem S512x2560 .i8 := win0_5.stage (cfg0.slots t 5)
abbrev hs5 (t : Fin cfg0.N) : (ms5 t).IsWhole := hstage0_5 ((cfg0.slots t 5).cast nbuf0_5)
/-- The staging buffer of window 6 at point `t`, and that it is whole. -/
abbrev ms6 (t : Fin cfg0.N) : Memref sig .tc .vmem S512x80 .i8 := win0_6.stage (cfg0.slots t 6)
abbrev hs6 (t : Fin cfg0.N) : (ms6 t).IsWhole := hstage0_6 ((cfg0.slots t 6).cast nbuf0_6)
/-- The staging buffer of window 7 at point `t`, and that it is whole. -/
abbrev ms7 (t : Fin cfg0.N) : Memref sig .tc .vmem S256x5120 .bf16 := win0_7.stage (cfg0.slots t 7)
abbrev hs7 (t : Fin cfg0.N) : (ms7 t).IsWhole := hstage0_7 ((cfg0.slots t 7).cast nbuf0_7)

/-- The kernel's scratch buffers. -/
abbrev sc0 : Memref sig .tc .vmem S256x512 .bf16 := Memref.whole cc0_scratch0
abbrev sc1 : Memref sig .tc .vmem S256x128 .i32 := Memref.whole cc0_scratch1
abbrev sc2 : Memref sig .tc .vmem S2x512x256 .bf16 := Memref.whole cc0_scratch2
abbrev sc3 : Memref sig .tc .vmem S2x512x256 .bf16 := Memref.whole cc0_scratch3
abbrev sc4 : Memref sig .tc .vmem S2x256x2560 .f32 := Memref.whole cc0_scratch4

/-- What the region hands the body beside the windows: the scratch at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- What is known at each point: an input window holds its block; the result window is not spoken of. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (ms7 t).view.read (Elt F) (ms7 t).view.junk
  Φ _ := Pipeline.ΦA spec0 c
  q _ := fullShare
  owed _ := 0

/-- The result window alone is left unspoken of. -/
def fgt : Fin cfg0.W → Bool := fun w => w.val == 7

/-- Each window starts from its array at the start of the call. -/
theorem A_eq (c : Dev nD) (w : Fin cfg0.W) : (dats m 0 c).A w = V m c (Pipeline.arrRef spec0 w) := by
  dsimp only [dats]

/-- After a point, window 0 holds what `dats` says. -/
theorem after_0 (c : Dev nD) (t : Fin cfg0.N) : (dats m 0 c).after 0 t = iblk m c 0 t := by dsimp only [dats]
/-- Before a point, window 0 holds its block. -/
theorem before_0 (c : Dev nD) (t : Fin cfg0.N) (d) : (dats m 0 c).before 0 t d = iblk m c 0 t :=
  before0_0_of m (dats m 0 c) (A_eq m c 0) (after_0 m c) t d
/-- After a point, window 1 holds what `dats` says. -/
theorem after_1 (c : Dev nD) (t : Fin cfg0.N) : (dats m 0 c).after 1 t = iblk m c 1 t := by dsimp only [dats]
/-- Before a point, window 1 holds its block. -/
theorem before_1 (c : Dev nD) (t : Fin cfg0.N) (d) : (dats m 0 c).before 1 t d = iblk m c 1 t :=
  before0_1_of m (dats m 0 c) (A_eq m c 1) (after_1 m c) t d
/-- After a point, window 2 holds what `dats` says. -/
theorem after_2 (c : Dev nD) (t : Fin cfg0.N) : (dats m 0 c).after 2 t = iblk m c 2 t := by dsimp only [dats]
/-- Before a point, window 2 holds its block. -/
theorem before_2 (c : Dev nD) (t : Fin cfg0.N) (d) : (dats m 0 c).before 2 t d = iblk m c 2 t :=
  before0_2_of m (dats m 0 c) (A_eq m c 2) (after_2 m c) t d
/-- After a point, window 3 holds what `dats` says. -/
theorem after_3 (c : Dev nD) (t : Fin cfg0.N) : (dats m 0 c).after 3 t = iblk m c 3 t := by dsimp only [dats]
/-- Before a point, window 3 holds its block. -/
theorem before_3 (c : Dev nD) (t : Fin cfg0.N) (d) : (dats m 0 c).before 3 t d = iblk m c 3 t :=
  before0_3_of m (dats m 0 c) (A_eq m c 3) (after_3 m c) t d
/-- After a point, window 4 holds what `dats` says. -/
theorem after_4 (c : Dev nD) (t : Fin cfg0.N) : (dats m 0 c).after 4 t = iblk m c 4 t := by dsimp only [dats]
/-- Before a point, window 4 holds its block. -/
theorem before_4 (c : Dev nD) (t : Fin cfg0.N) (d) : (dats m 0 c).before 4 t d = iblk m c 4 t :=
  before0_4_of m (dats m 0 c) (A_eq m c 4) (after_4 m c) t d
/-- After a point, window 5 holds what `dats` says. -/
theorem after_5 (c : Dev nD) (t : Fin cfg0.N) : (dats m 0 c).after 5 t = iblk m c 5 t := by dsimp only [dats]
/-- Before a point, window 5 holds its block. -/
theorem before_5 (c : Dev nD) (t : Fin cfg0.N) (d) : (dats m 0 c).before 5 t d = iblk m c 5 t :=
  before0_5_of m (dats m 0 c) (A_eq m c 5) (after_5 m c) t d
/-- After a point, window 6 holds what `dats` says. -/
theorem after_6 (c : Dev nD) (t : Fin cfg0.N) : (dats m 0 c).after 6 t = iblk m c 6 t := by dsimp only [dats]
/-- Before a point, window 6 holds its block. -/
theorem before_6 (c : Dev nD) (t : Fin cfg0.N) (d) : (dats m 0 c).before 6 t d = iblk m c 6 t :=
  before0_6_of m (dats m 0 c) (A_eq m c 6) (after_6 m c) t d

/-- What the body is handed at point `t`, -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ X, owns (c : Thread nD τ) (ms7 t) fullShare X))

/-- and what it gives back. -/
def bodyPost (c : Dev nD) (t : Fin cfg0.N) : sProp 𝕄 :=
  iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ (∃ X, owns (c : Thread nD τ) (ms7 t) fullShare X))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, after_0, after_1, after_2, after_3, after_4, after_5, after_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  have hN : t.val < 54 := lt_of_lt_of_eq t.isLt (show cfg0.N = 54 from N_0)
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, H7⟩
  by_cases h0 : t.val % 54 = 0
  · have h1 : ¬ t.val % 54 = 53 := by omega
    iapply (runA c (grid0.coords t) _ _ _ _ _ _ _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t) Set.univ rfl _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h1 : t.val % 54 = 53
    · iapply (runC c (grid0.coords t) _ _ _ _ _ _ _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) (iblk m c 6 t) Set.univ rfl _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iapply (runB c (grid0.coords t) _ _ _ _ _ _ _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) (iblk m c 6 t) Set.univ rfl _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body's call is the body. -/
theorem defs₀_row (t : Fin cfg0.N) :
    defs₀ (F := F) .tc cfg0.body (cfg0.bodyArgs t (cfg0.slots t)) = bodyAt0 t := by
  unfold defs₀; rw [Defs.onTc_tc]

/-- The body's triple as the pipeline asks for it. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The whole program runs; at the end its input arrays, its other arrays and every semaphore counter are as stated. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments are unchanged and every semaphore counter is zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hr => ⟨fun c => ⟨(((hr.1 c).2 main_arg0 (Pipeline.mem_restRefs_of main_arg0 (by decide) (by decide))).trans (V_main_arg0 m c)),
      (((hr.1 c).2 main_arg1 (Pipeline.mem_restRefs_of main_arg1 (by decide) (by decide))).trans (V_main_arg1 m c)),
      ((hr.1.arr_in c 5 rfl).trans ((A_eq m c 5).trans (V_main_arg2 m c))),
      ((hr.1.arr_in c 6 rfl).trans ((A_eq m c 6).trans (V_main_arg3 m c))),
      ((hr.1.arr_in c 0 rfl).trans ((A_eq m c 0).trans (V_main_arg4 m c))),
      ((hr.1.arr_in c 1 rfl).trans ((A_eq m c 1).trans (V_main_arg5 m c)))⟩, hr.2⟩) (run_main m ρ)

end Cert.Kernel.Hand

end
-- ==== Proof.KernelIdealLoops.lean ====
/- The two outer loops over the weight columns of `KernelIdeal`, each gone through once at a symbolic trip: what the buffers they
   touch are known to hold. The scratch they fill is at some contents; the blocks they read stay as they are. -/
module

public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option warn.classDefReducibility false in
/-- One half block of 128 lanes at a time: the quantised weights and the scales are read, the two tables of decoded
    weights are written. -/
@[sl_loop] def loopInv_k0_t3 (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (v166 : Vec F S32x128 .i8) (k0_t2 : Fin k0_t2_loop.trips) (arg14 : BitVec 32)
    (X6 : BufTy.Contents (Elt F) arg6.view.ty) (X10 : BufTy.Contents (Elt F) arg10.view.ty) :
    LoopInvTy_k0_t3 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v166 k0_t2 arg14 where
  inv _ _ := iprop((arg6.view.loc (c : Thread nD τ) ↦[arg6.view.set]{fullShare} X6) ∗ (arg10.view.loc (c : Thread nD τ) ↦[arg10.view.set]{fullShare} X10) ∗ (∃ f, (arg11.view.loc (c : Thread nD τ) ↦[arg11.view.set]{fullShare} f)) ∗ (∃ f, (arg12.view.loc (c : Thread nD τ) ↦[arg12.view.set]{fullShare} f)))
  step k acc := by
    unfold k0_t3_body
    iintro ⟨H6, H10, ⟨%f11, H11⟩, ⟨%f12, H12⟩⟩
    sl_exec
    sl_step
    isplitl [H6]; · iexact H6
    isplitl [H10]; · iexact H10
    isplitl [H11]; · iexists _; iexact H11
    iexists _; iexact H12

set_option warn.classDefReducibility false in
/-- One block of 256 weight columns at a time: after the decoding, both halves of the accumulator get the product. -/
@[sl_loop] def loopInv_k0_t2 (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (v166 : Vec F S32x128 .i8)
    (X6 : BufTy.Contents (Elt F) arg6.view.ty) (X9 : BufTy.Contents (Elt F) arg9.view.ty) (X10 : BufTy.Contents (Elt F) arg10.view.ty) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v166 where
  inv _ _ := iprop((arg6.view.loc (c : Thread nD τ) ↦[arg6.view.set]{fullShare} X6) ∗ (arg9.view.loc (c : Thread nD τ) ↦[arg9.view.set]{fullShare} X9) ∗ (arg10.view.loc (c : Thread nD τ) ↦[arg10.view.set]{fullShare} X10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))
  step k acc := by
    unfold k0_t2_body
    iintro ⟨H6, H9, H10, ⟨%f11, H11⟩, ⟨%f12, H12⟩, ⟨%f13, H13⟩⟩
    sl_exec
    sl_step
    isplitl [H6]; · iexact H6
    isplitl [H9]; · iexact H9
    isplitl [H10]; · iexact H10
    isplitl [H11]; · iexists _; iexact H11
    isplitl [H12]; · iexists _; iexact H12
    iexists _; iexact H13

end Cert.KernelIdeal.Hand

end
-- ==== Proof.KernelIdealRun.lean ====
/- The whole body of `KernelIdeal` at one grid point, on any staging buffers: the blocks it reads are given back as they were. -/
module

public import proofs.«01_k».proof.Proof.KernelIdealLoops
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the first grid point, from the grid coordinates. -/
abbrev cond0 (i : grid0.Coords) : Prop := (Scalar.cmpi .ne (Scalar.extui (Scalar.cmpi .eq (BitVec.ofNat 32 (i 0).val) 0#32)) 0#32) = 1#1
/-- The condition of the last grid point. -/
abbrev cond1 (i : grid0.Coords) : Prop := k0_cond2 i = 1#1

set_option maxHeartbeats 4000000 in
/-- The body at the first point: run once; every block it reads comes back as it was, every buffer it writes at some contents. -/
theorem runA (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (hc0 : cond0 i) (hc1 : ¬cond1 i)
    (x0 : Vec F S8640 .f32) (x1 : Vec F S1 .f32) (x2 : Vec F S32x128 .i8) (x3 : Vec F S256x512 .fp8e4m3) (x4 : Vec F S256x256 .f32) (x5 : Vec F S512x2560 .i8) (x6 : Vec F S512x80 .i8) (E : Set ℕ) (hE : E = Set.univ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_nf4_dx i arg1 harg1 arg2 harg2 arg3 harg3 arg4 harg4 arg5 harg5 arg6 harg6 arg7 harg7 arg8 harg8 arg9 harg9 arg10 harg10 arg11 harg11 arg12 harg12 arg13 harg13) K := by
  subst hE
  simp only [cc0_nf4_dx_eq_skeleton]; unfold cc0_nf4_dx_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  · iexists _, _; isplitr; swap; · iexact H13
    ipureintro; rfl

set_option maxHeartbeats 4000000 in
/-- The body at a point in between: run once; every block it reads comes back as it was, every buffer it writes at some contents. -/
theorem runB (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (hc0 : ¬cond0 i) (hc1 : ¬cond1 i)
    (x0 : Vec F S8640 .f32) (x1 : Vec F S1 .f32) (x2 : Vec F S32x128 .i8) (x3 : Vec F S256x512 .fp8e4m3) (x4 : Vec F S256x256 .f32) (x5 : Vec F S512x2560 .i8) (x6 : Vec F S512x80 .i8) (E : Set ℕ) (hE : E = Set.univ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_nf4_dx i arg1 harg1 arg2 harg2 arg3 harg3 arg4 harg4 arg5 harg5 arg6 harg6 arg7 harg7 arg8 harg8 arg9 harg9 arg10 harg10 arg11 harg11 arg12 harg12 arg13 harg13) K := by
  subst hE
  simp only [cc0_nf4_dx_eq_skeleton]; unfold cc0_nf4_dx_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  · iexists _, _; isplitr; swap; · iexact H13
    ipureintro; rfl

set_option maxHeartbeats 4000000 in
/-- The body at the last point: run once; every block it reads comes back as it was, every buffer it writes at some contents. -/
theorem runC (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (hc0 : ¬cond0 i) (hc1 : cond1 i)
    (x0 : Vec F S8640 .f32) (x1 : Vec F S1 .f32) (x2 : Vec F S32x128 .i8) (x3 : Vec F S256x512 .fp8e4m3) (x4 : Vec F S256x256 .f32) (x5 : Vec F S512x2560 .i8) (x6 : Vec F S512x80 .i8) (E : Set ℕ) (hE : E = Set.univ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_nf4_dx i arg1 harg1 arg2 harg2 arg3 harg3 arg4 harg4 arg5 harg5 arg6 harg6 arg7 harg7 arg8 harg8 arg9 harg9 arg10 harg10 arg11 harg11 arg12 harg12 arg13 harg13) K := by
  subst hE
  simp only [cc0_nf4_dx_eq_skeleton]; unfold cc0_nf4_dx_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  · iexists _, _; isplitr; swap; · iexact H13
    ipureintro; rfl

end Cert.KernelIdeal.Hand

end
-- ==== Proof.KernelIdealFrame.lean ====
/- The frame of `KernelIdeal`: it runs to completion from any memory, leaves its arguments as they were and every semaphore
   counter at zero. The result window is left at some contents here. -/
module

public import proofs.«01_k».proof.Proof.KernelIdealRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first condition holds at the first point only. -/
theorem hcond0 : ∀ t : Fin cfg0.N, cond0 (grid0.coords t) ↔ t.val % 54 = 0 :=
  (fun t => by
    have ht : t.val < 54 := Nat.lt_of_lt_of_eq t.isLt N_0
    have e0 : (grid0.coords t 0).val = t.val / 1 % 54 := Pipeline.Grid.coords_val t 0 (by decide) rfl
    simp only [cond0, e0]
    word_cmp
   : ∀ t : Fin grid0.N, cond0 (grid0.coords t) ↔ t.val % 54 = 0)

/-- The second condition holds at the last point only. -/
theorem hcond1 : ∀ t : Fin cfg0.N, cond1 (grid0.coords t) ↔ t.val % 54 = 53 :=
  (fun t => by
    have ht : t.val < 54 := Nat.lt_of_lt_of_eq t.isLt N_0
    have e0 : (grid0.coords t 0).val = t.val / 1 % 54 := Pipeline.Grid.coords_val t 0 (by decide) rfl
    simp only [cond1, k0_cond2, e0]
    word_cmp
   : ∀ t : Fin grid0.N, cond1 (grid0.coords t) ↔ t.val % 54 = 53)

/-- The staging buffer of window 0 at point `t`, and that it is whole. -/
abbrev ms0 (t : Fin cfg0.N) : Memref sig .tc .smem S8640 .f32 := win0_0.stage (cfg0.slots t 0)
abbrev hs0 (t : Fin cfg0.N) : (ms0 t).IsWhole := hstage0_0 ((cfg0.slots t 0).cast nbuf0_0)
/-- The staging buffer of window 1 at point `t`, and that it is whole. -/
abbrev ms1 (t : Fin cfg0.N) : Memref sig .tc .smem S1 .f32 := win0_1.stage (cfg0.slots t 1)
abbrev hs1 (t : Fin cfg0.N) : (ms1 t).IsWhole := hstage0_1 ((cfg0.slots t 1).cast nbuf0_1)
/-- The staging buffer of window 2 at point `t`, and that it is whole. -/
abbrev ms2 (t : Fin cfg0.N) : Memref sig .tc .vmem S32x128 .i8 := win0_2.stage (cfg0.slots t 2)
abbrev hs2 (t : Fin cfg0.N) : (ms2 t).IsWhole := hstage0_2 ((cfg0.slots t 2).cast nbuf0_2)
/-- The staging buffer of window 3 at point `t`, and that it is whole. -/
abbrev ms3 (t : Fin cfg0.N) : Memref sig .tc .vmem S256x512 .fp8e4m3 := win0_3.stage (cfg0.slots t 3)
abbrev hs3 (t : Fin cfg0.N) : (ms3 t).IsWhole := hstage0_3 ((cfg0.slots t 3).cast nbuf0_3)
/-- The staging buffer of window 4 at point `t`, and that it is whole. -/
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
/-- The staging buffer of window 5 at point `t`, and that it is whole. -/
abbrev ms5 (t : Fin cfg0.N) : Memref sig .tc .vmem S512x2560 .i8 := win0_5.stage (cfg0.slots t 5)
abbrev hs5 (t : Fin cfg0.N) : (ms5 t).IsWhole := hstage0_5 ((cfg0.slots t 5).cast nbuf0_5)
/-- The staging buffer of window 6 at point `t`, and that it is whole. -/
abbrev ms6 (t : Fin cfg0.N) : Memref sig .tc .vmem S512x80 .i8 := win0_6.stage (cfg0.slots t 6)
abbrev hs6 (t : Fin cfg0.N) : (ms6 t).IsWhole := hstage0_6 ((cfg0.slots t 6).cast nbuf0_6)
/-- The staging buffer of window 7 at point `t`, and that it is whole. -/
abbrev ms7 (t : Fin cfg0.N) : Memref sig .tc .vmem S256x5120 .bf16 := win0_7.stage (cfg0.slots t 7)
abbrev hs7 (t : Fin cfg0.N) : (ms7 t).IsWhole := hstage0_7 ((cfg0.slots t 7).cast nbuf0_7)

/-- The kernel's scratch buffers. -/
abbrev sc0 : Memref sig .tc .vmem S256x512 .bf16 := Memref.whole cc0_scratch0
abbrev sc1 : Memref sig .tc .vmem S256x2x128 .bf16 := Memref.whole cc0_scratch1
abbrev sc2 : Memref sig .tc .vmem S2x512x256 .bf16 := Memref.whole cc0_scratch2
abbrev sc3 : Memref sig .tc .vmem S2x512x256 .bf16 := Memref.whole cc0_scratch3
abbrev sc4 : Memref sig .tc .vmem S2x256x2560 .f32 := Memref.whole cc0_scratch4

/-- What the region hands the body beside the windows: the scratch at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- What is known at each point: an input window holds its block; the result window is not spoken of. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (ms7 t).view.read (Elt F) (ms7 t).view.junk
  Φ _ := Pipeline.ΦA spec0 c
  q _ := fullShare
  owed _ := 0

/-- The result window alone is left unspoken of. -/
def fgt : Fin cfg0.W → Bool := fun w => w.val == 7

/-- Each window starts from its array at the start of the call. -/
theorem A_eq (c : Dev nD) (w : Fin cfg0.W) : (dats m 0 c).A w = V m c (Pipeline.arrRef spec0 w) := by
  dsimp only [dats]

/-- After a point, window 0 holds what `dats` says. -/
theorem after_0 (c : Dev nD) (t : Fin cfg0.N) : (dats m 0 c).after 0 t = iblk m c 0 t := by dsimp only [dats]
/-- Before a point, window 0 holds its block. -/
theorem before_0 (c : Dev nD) (t : Fin cfg0.N) (d) : (dats m 0 c).before 0 t d = iblk m c 0 t :=
  before0_0_of m (dats m 0 c) (A_eq m c 0) (after_0 m c) t d
/-- After a point, window 1 holds what `dats` says. -/
theorem after_1 (c : Dev nD) (t : Fin cfg0.N) : (dats m 0 c).after 1 t = iblk m c 1 t := by dsimp only [dats]
/-- Before a point, window 1 holds its block. -/
theorem before_1 (c : Dev nD) (t : Fin cfg0.N) (d) : (dats m 0 c).before 1 t d = iblk m c 1 t :=
  before0_1_of m (dats m 0 c) (A_eq m c 1) (after_1 m c) t d
/-- After a point, window 2 holds what `dats` says. -/
theorem after_2 (c : Dev nD) (t : Fin cfg0.N) : (dats m 0 c).after 2 t = iblk m c 2 t := by dsimp only [dats]
/-- Before a point, window 2 holds its block. -/
theorem before_2 (c : Dev nD) (t : Fin cfg0.N) (d) : (dats m 0 c).before 2 t d = iblk m c 2 t :=
  before0_2_of m (dats m 0 c) (A_eq m c 2) (after_2 m c) t d
/-- After a point, window 3 holds what `dats` says. -/
theorem after_3 (c : Dev nD) (t : Fin cfg0.N) : (dats m 0 c).after 3 t = iblk m c 3 t := by dsimp only [dats]
/-- Before a point, window 3 holds its block. -/
theorem before_3 (c : Dev nD) (t : Fin cfg0.N) (d) : (dats m 0 c).before 3 t d = iblk m c 3 t :=
  before0_3_of m (dats m 0 c) (A_eq m c 3) (after_3 m c) t d
/-- After a point, window 4 holds what `dats` says. -/
theorem after_4 (c : Dev nD) (t : Fin cfg0.N) : (dats m 0 c).after 4 t = iblk m c 4 t := by dsimp only [dats]
/-- Before a point, window 4 holds its block. -/
theorem before_4 (c : Dev nD) (t : Fin cfg0.N) (d) : (dats m 0 c).before 4 t d = iblk m c 4 t :=
  before0_4_of m (dats m 0 c) (A_eq m c 4) (after_4 m c) t d
/-- After a point, window 5 holds what `dats` says. -/
theorem after_5 (c : Dev nD) (t : Fin cfg0.N) : (dats m 0 c).after 5 t = iblk m c 5 t := by dsimp only [dats]
/-- Before a point, window 5 holds its block. -/
theorem before_5 (c : Dev nD) (t : Fin cfg0.N) (d) : (dats m 0 c).before 5 t d = iblk m c 5 t :=
  before0_5_of m (dats m 0 c) (A_eq m c 5) (after_5 m c) t d
/-- After a point, window 6 holds what `dats` says. -/
theorem after_6 (c : Dev nD) (t : Fin cfg0.N) : (dats m 0 c).after 6 t = iblk m c 6 t := by dsimp only [dats]
/-- Before a point, window 6 holds its block. -/
theorem before_6 (c : Dev nD) (t : Fin cfg0.N) (d) : (dats m 0 c).before 6 t d = iblk m c 6 t :=
  before0_6_of m (dats m 0 c) (A_eq m c 6) (after_6 m c) t d

/-- What the body is handed at point `t`, -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ X, owns (c : Thread nD τ) (ms7 t) fullShare X))

/-- and what it gives back. -/
def bodyPost (c : Dev nD) (t : Fin cfg0.N) : sProp 𝕄 :=
  iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ (∃ X, owns (c : Thread nD τ) (ms7 t) fullShare X))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, after_0, after_1, after_2, after_3, after_4, after_5, after_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  have hN : t.val < 54 := lt_of_lt_of_eq t.isLt (show cfg0.N = 54 from N_0)
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, H7⟩
  by_cases h0 : t.val % 54 = 0
  · have h1 : ¬ t.val % 54 = 53 := by omega
    iapply (runA c (grid0.coords t) _ _ _ _ _ _ _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t) Set.univ rfl _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h1 : t.val % 54 = 53
    · iapply (runC c (grid0.coords t) _ _ _ _ _ _ _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) (iblk m c 6 t) Set.univ rfl _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iapply (runB c (grid0.coords t) _ _ _ _ _ _ _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) (iblk m c 6 t) Set.univ rfl _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body's call is the body. -/
theorem defs₀_row (t : Fin cfg0.N) :
    defs₀ (F := F) .tc cfg0.body (cfg0.bodyArgs t (cfg0.slots t)) = bodyAt0 t := by
  unfold defs₀; rw [Defs.onTc_tc]

/-- The body's triple as the pipeline asks for it. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The whole program runs; at the end its input arrays, its other arrays and every semaphore counter are as stated. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments are unchanged and every semaphore counter is zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hr => ⟨fun c => ⟨(((hr.1 c).2 main_arg0 (Pipeline.mem_restRefs_of main_arg0 (by decide) (by decide))).trans (V_main_arg0 m c)),
      (((hr.1 c).2 main_arg1 (Pipeline.mem_restRefs_of main_arg1 (by decide) (by decide))).trans (V_main_arg1 m c)),
      ((hr.1.arr_in c 5 rfl).trans ((A_eq m c 5).trans (V_main_arg2 m c))),
      ((hr.1.arr_in c 6 rfl).trans ((A_eq m c 6).trans (V_main_arg3 m c))),
      ((hr.1.arr_in c 0 rfl).trans ((A_eq m c 0).trans (V_main_arg4 m c))),
      ((hr.1.arr_in c 1 rfl).trans ((A_eq m c 1).trans (V_main_arg5 m c)))⟩, hr.2⟩) (run_main m ρ)

end Cert.KernelIdeal.Hand

end
-- ==== Proof.KernelIdealSteps.lean ====
/- The two outer loops over the weight columns of `KernelIdeal` with the exact contents of what they write: the state of the
   scratch buffers before a trip, by recursion on the trips, and the loops' invariants at that state. -/
module

public import proofs.«01_k».proof.Proof.Gen.KernelIdeal.Loops

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces the 16 trips of the decoding loop write for one half block of 128 lanes. -/
def pieces4 (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (v166 : Vec F S32x128 .i8) (j : Fin k0_t2_loop.trips) (arg14 : BitVec 32) (X6 : BufTy.Contents (Elt F) arg6.view.ty) (X10 : BufTy.Contents (Elt F) arg10.view.ty) (t : Fin k0_t3_loop.trips) :
    List (View.Piece (Elt F) S2x512x256 .bf16) × List (View.Piece (Elt F) S2x512x256 .bf16) :=
  pb_k0_t4 (F := F) Variants.none c none i arg1 harg1 arg2 harg2 arg3 harg3 arg4 harg4 arg5 harg5 arg6 harg6 arg7 harg7 arg8 harg8 arg9 harg9 arg10 harg10 arg11 harg11 arg12 harg12 arg13 harg13 v166 j arg14 t (Scf.iv 0#32 1#32 t) (Scalar.addi (Scalar.muli arg14 256#32) (Scalar.muli (Scf.iv 0#32 1#32 t) 128#32)) X6 X10 k0_t4_loop.trips

/-- The two tables of decoded weights before trip `n` of the loop over half blocks. -/
def st3 (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (v166 : Vec F S32x128 .i8) (j : Fin k0_t2_loop.trips) (arg14 : BitVec 32) (X6 : BufTy.Contents (Elt F) arg6.view.ty) (X10 : BufTy.Contents (Elt F) arg10.view.ty) (G11 : BufTy.Contents (Elt F) arg11.view.ty) (G12 : BufTy.Contents (Elt F) arg12.view.ty) :
    ℕ → BufTy.Contents (Elt F) arg11.view.ty × BufTy.Contents (Elt F) arg12.view.ty
  | 0 => (G11, G12)
  | n + 1 =>
    if h : n < k0_t3_loop.trips then
      (arg11.view.writes (Elt F) (st3 c i arg1 harg1 arg2 harg2 arg3 harg3 arg4 harg4 arg5 harg5 arg6 harg6 arg7 harg7 arg8 harg8 arg9 harg9 arg10 harg10 arg11 harg11 arg12 harg12 arg13 harg13 v166 j arg14 X6 X10 G11 G12 n).1 (pieces4 c i arg1 harg1 arg2 harg2 arg3 harg3 arg4 harg4 arg5 harg5 arg6 harg6 arg7 harg7 arg8 harg8 arg9 harg9 arg10 harg10 arg11 harg11 arg12 harg12 arg13 harg13 v166 j arg14 X6 X10 ⟨n, h⟩).1,
        arg12.view.writes (Elt F) (st3 c i arg1 harg1 arg2 harg2 arg3 harg3 arg4 harg4 arg5 harg5 arg6 harg6 arg7 harg7 arg8 harg8 arg9 harg9 arg10 harg10 arg11 harg11 arg12 harg12 arg13 harg13 v166 j arg14 X6 X10 G11 G12 n).2 (pieces4 c i arg1 harg1 arg2 harg2 arg3 harg3 arg4 harg4 arg5 harg5 arg6 harg6 arg7 harg7 arg8 harg8 arg9 harg9 arg10 harg10 arg11 harg11 arg12 harg12 arg13 harg13 v166 j arg14 X6 X10 ⟨n, h⟩).2)
    else st3 c i arg1 harg1 arg2 harg2 arg3 harg3 arg4 harg4 arg5 harg5 arg6 harg6 arg7 harg7 arg8 harg8 arg9 harg9 arg10 harg10 arg11 harg11 arg12 harg12 arg13 harg13 v166 j arg14 X6 X10 G11 G12 n

/-- One trip of it. -/
theorem st3_succ (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (v166 : Vec F S32x128 .i8) (j : Fin k0_t2_loop.trips) (arg14 : BitVec 32) (X6 : BufTy.Contents (Elt F) arg6.view.ty) (X10 : BufTy.Contents (Elt F) arg10.view.ty) (G11 : BufTy.Contents (Elt F) arg11.view.ty) (G12 : BufTy.Contents (Elt F) arg12.view.ty) (t : Fin k0_t3_loop.trips) :
    st3 c i arg1 harg1 arg2 harg2 arg3 harg3 arg4 harg4 arg5 harg5 arg6 harg6 arg7 harg7 arg8 harg8 arg9 harg9 arg10 harg10 arg11 harg11 arg12 harg12 arg13 harg13 v166 j arg14 X6 X10 G11 G12 (t.val + 1)
      = (arg11.view.writes (Elt F) (st3 c i arg1 harg1 arg2 harg2 arg3 harg3 arg4 harg4 arg5 harg5 arg6 harg6 arg7 harg7 arg8 harg8 arg9 harg9 arg10 harg10 arg11 harg11 arg12 harg12 arg13 harg13 v166 j arg14 X6 X10 G11 G12 t.val).1 (pieces4 c i arg1 harg1 arg2 harg2 arg3 harg3 arg4 harg4 arg5 harg5 arg6 harg6 arg7 harg7 arg8 harg8 arg9 harg9 arg10 harg10 arg11 harg11 arg12 harg12 arg13 harg13 v166 j arg14 X6 X10 t).1,
        arg12.view.writes (Elt F) (st3 c i arg1 harg1 arg2 harg2 arg3 harg3 arg4 harg4 arg5 harg5 arg6 harg6 arg7 harg7 arg8 harg8 arg9 harg9 arg10 harg10 arg11 harg11 arg12 harg12 arg13 harg13 v166 j arg14 X6 X10 G11 G12 t.val).2 (pieces4 c i arg1 harg1 arg2 harg2 arg3 harg3 arg4 harg4 arg5 harg5 arg6 harg6 arg7 harg7 arg8 harg8 arg9 harg9 arg10 harg10 arg11 harg11 arg12 harg12 arg13 harg13 v166 j arg14 X6 X10 t).2) := by
  rw [st3, dif_pos t.isLt]

set_option warn.classDefReducibility false in
/-- One half block of 128 lanes at a time, the two tables of decoded weights at their state before the trip. -/
@[sl_loop] def loopInv_k0_t3 (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (v166 : Vec F S32x128 .i8) (k0_t2 : Fin k0_t2_loop.trips) (arg14 : BitVec 32)
    (X6 : BufTy.Contents (Elt F) arg6.view.ty) (X10 : BufTy.Contents (Elt F) arg10.view.ty) (G11 : BufTy.Contents (Elt F) arg11.view.ty) (G12 : BufTy.Contents (Elt F) arg12.view.ty) :
    LoopInvTy_k0_t3 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v166 k0_t2 arg14 where
  inv n _ := iprop((arg6.view.loc (c : Thread nD τ) ↦[arg6.view.set]{fullShare} X6) ∗ (arg10.view.loc (c : Thread nD τ) ↦[arg10.view.set]{fullShare} X10) ∗ (∃ f, (arg11.view.loc (c : Thread nD τ) ↦[arg11.view.set]{fullShare} f) ∗ ⌜f = (st3 c i arg1 harg1 arg2 harg2 arg3 harg3 arg4 harg4 arg5 harg5 arg6 harg6 arg7 harg7 arg8 harg8 arg9 harg9 arg10 harg10 arg11 harg11 arg12 harg12 arg13 harg13 v166 k0_t2 arg14 X6 X10 G11 G12 n).1⌝) ∗ (∃ f, (arg12.view.loc (c : Thread nD τ) ↦[arg12.view.set]{fullShare} f) ∗ ⌜f = (st3 c i arg1 harg1 arg2 harg2 arg3 harg3 arg4 harg4 arg5 harg5 arg6 harg6 arg7 harg7 arg8 harg8 arg9 harg9 arg10 harg10 arg11 harg11 arg12 harg12 arg13 harg13 v166 k0_t2 arg14 X6 X10 G11 G12 n).2⌝))
  step k acc := by
    unfold k0_t3_body
    iintro ⟨H6, H10, ⟨%f11, H11, %h11⟩, ⟨%f12, H12, %h12⟩⟩
    sl_exec
    sl_step
    isplitl [H6]; · iexact H6
    isplitl [H10]; · iexact H10
    rw [st3_succ]
    isplitl [H11]
    · iexists _; isplitl [H11]; · iexact H11
      ipureintro; rw [← h11]; rfl
    iexists _; isplitl [H12]; · iexact H12
    ipureintro; rw [← h12]; rfl

/-- What one block of 256 columns writes into the accumulator: both halves, each the slice read before plus the product. -/
def pieces2 (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (X9 : BufTy.Contents (Elt F) arg9.view.ty) (j : Fin k0_t2_loop.trips) (W11 : BufTy.Contents (Elt F) arg11.view.ty) (W12 : BufTy.Contents (Elt F) arg12.view.ty) (G13 : BufTy.Contents (Elt F) arg13.view.ty) :
    List (View.Piece (Elt F) S2x256x2560 .f32) :=
  [⟨Rect.unit (s := S2x256x2560) (k0_off9 j) S1x256x256.size (k0_off9_inb j),
      k0_pay61 (View.readAt (Elt F) arg9.view (Rect.unit (s := S256x512) ![0, 0] S256x512.size inb_S256x512_S256x512_0_0).toLoadRect X9)
        (View.readAt (Elt F) arg13.view (Rect.unit (s := S2x256x2560) (k0_off9 j) S1x256x256.size (k0_off9_inb j)).toLoadRect G13)
        (View.readAt (Elt F) arg12.view (Rect.unit (s := S2x512x256) (k0_off8 j) S1x512x256.size (k0_off8_inb j)).toLoadRect W12)⟩,
    ⟨Rect.unit (s := S2x256x2560) (k0_off7 j) S1x256x256.size (k0_off7_inb j),
      k0_pay60 (View.readAt (Elt F) arg9.view (Rect.unit (s := S256x512) ![0, 0] S256x512.size inb_S256x512_S256x512_0_0).toLoadRect X9)
        (View.readAt (Elt F) arg13.view (Rect.unit (s := S2x256x2560) (k0_off7 j) S1x256x256.size (k0_off7_inb j)).toLoadRect G13)
        (View.readAt (Elt F) arg11.view (Rect.unit (s := S2x512x256) (k0_off8 j) S1x512x256.size (k0_off8_inb j)).toLoadRect W11)⟩]

/-- The tables and the accumulator before trip `n` of the loop over blocks of 256 weight columns. -/
def st2 (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (v166 : Vec F S32x128 .i8) (X6 : BufTy.Contents (Elt F) arg6.view.ty) (X9 : BufTy.Contents (Elt F) arg9.view.ty) (X10 : BufTy.Contents (Elt F) arg10.view.ty) (G11 : BufTy.Contents (Elt F) arg11.view.ty) (G12 : BufTy.Contents (Elt F) arg12.view.ty) (G13 : BufTy.Contents (Elt F) arg13.view.ty) :
    ℕ → BufTy.Contents (Elt F) arg11.view.ty × BufTy.Contents (Elt F) arg12.view.ty × BufTy.Contents (Elt F) arg13.view.ty
  | 0 => (G11, G12, G13)
  | n + 1 =>
    if h : n < k0_t2_loop.trips then
      let prev := st2 c i arg1 harg1 arg2 harg2 arg3 harg3 arg4 harg4 arg5 harg5 arg6 harg6 arg7 harg7 arg8 harg8 arg9 harg9 arg10 harg10 arg11 harg11 arg12 harg12 arg13 harg13 v166 X6 X9 X10 G11 G12 G13 n
      let w := st3 c i arg1 harg1 arg2 harg2 arg3 harg3 arg4 harg4 arg5 harg5 arg6 harg6 arg7 harg7 arg8 harg8 arg9 harg9 arg10 harg10 arg11 harg11 arg12 harg12 arg13 harg13 v166 ⟨n, h⟩ (Scf.iv 0#32 1#32 (⟨n, h⟩ : Fin k0_t2_loop.trips)) X6 X10 prev.1 prev.2.1 k0_t3_loop.trips
      (w.1, w.2, arg13.view.writes (Elt F) prev.2.2 (pieces2 c i arg1 harg1 arg2 harg2 arg3 harg3 arg4 harg4 arg5 harg5 arg6 harg6 arg7 harg7 arg8 harg8 arg9 harg9 arg10 harg10 arg11 harg11 arg12 harg12 arg13 harg13 X9 ⟨n, h⟩ w.1 w.2 prev.2.2))
    else st2 c i arg1 harg1 arg2 harg2 arg3 harg3 arg4 harg4 arg5 harg5 arg6 harg6 arg7 harg7 arg8 harg8 arg9 harg9 arg10 harg10 arg11 harg11 arg12 harg12 arg13 harg13 v166 X6 X9 X10 G11 G12 G13 n

/-- One trip of it. -/
theorem st2_succ (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (v166 : Vec F S32x128 .i8) (X6 : BufTy.Contents (Elt F) arg6.view.ty) (X9 : BufTy.Contents (Elt F) arg9.view.ty) (X10 : BufTy.Contents (Elt F) arg10.view.ty) (G11 : BufTy.Contents (Elt F) arg11.view.ty) (G12 : BufTy.Contents (Elt F) arg12.view.ty) (G13 : BufTy.Contents (Elt F) arg13.view.ty) (j : Fin k0_t2_loop.trips) :
    st2 c i arg1 harg1 arg2 harg2 arg3 harg3 arg4 harg4 arg5 harg5 arg6 harg6 arg7 harg7 arg8 harg8 arg9 harg9 arg10 harg10 arg11 harg11 arg12 harg12 arg13 harg13 v166 X6 X9 X10 G11 G12 G13 (j.val + 1)
      = (let prev := st2 c i arg1 harg1 arg2 harg2 arg3 harg3 arg4 harg4 arg5 harg5 arg6 harg6 arg7 harg7 arg8 harg8 arg9 harg9 arg10 harg10 arg11 harg11 arg12 harg12 arg13 harg13 v166 X6 X9 X10 G11 G12 G13 j.val
         let w := st3 c i arg1 harg1 arg2 harg2 arg3 harg3 arg4 harg4 arg5 harg5 arg6 harg6 arg7 harg7 arg8 harg8 arg9 harg9 arg10 harg10 arg11 harg11 arg12 harg12 arg13 harg13 v166 j (Scf.iv 0#32 1#32 j) X6 X10 prev.1 prev.2.1 k0_t3_loop.trips
         (w.1, w.2, arg13.view.writes (Elt F) prev.2.2 (pieces2 c i arg1 harg1 arg2 harg2 arg3 harg3 arg4 harg4 arg5 harg5 arg6 harg6 arg7 harg7 arg8 harg8 arg9 harg9 arg10 harg10 arg11 harg11 arg12 harg12 arg13 harg13 X9 j w.1 w.2 prev.2.2))) := by
  rw [st2, dif_pos j.isLt]

set_option warn.classDefReducibility false in
/-- One block of 256 weight columns at a time: after the decoding, both halves of the accumulator get the product. -/
@[sl_loop] def loopInv_k0_t2 (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (v166 : Vec F S32x128 .i8)
    (X6 : BufTy.Contents (Elt F) arg6.view.ty) (X9 : BufTy.Contents (Elt F) arg9.view.ty) (X10 : BufTy.Contents (Elt F) arg10.view.ty) (G11 : BufTy.Contents (Elt F) arg11.view.ty) (G12 : BufTy.Contents (Elt F) arg12.view.ty) (G13 : BufTy.Contents (Elt F) arg13.view.ty) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v166 where
  inv n _ := iprop((arg6.view.loc (c : Thread nD τ) ↦[arg6.view.set]{fullShare} X6) ∗ (arg9.view.loc (c : Thread nD τ) ↦[arg9.view.set]{fullShare} X9) ∗ (arg10.view.loc (c : Thread nD τ) ↦[arg10.view.set]{fullShare} X10) ∗ (∃ f, (arg11.view.loc (c : Thread nD τ) ↦[arg11.view.set]{fullShare} f) ∗ ⌜f = (st2 c i arg1 harg1 arg2 harg2 arg3 harg3 arg4 harg4 arg5 harg5 arg6 harg6 arg7 harg7 arg8 harg8 arg9 harg9 arg10 harg10 arg11 harg11 arg12 harg12 arg13 harg13 v166 X6 X9 X10 G11 G12 G13 n).1⌝) ∗ (∃ f, (arg12.view.loc (c : Thread nD τ) ↦[arg12.view.set]{fullShare} f) ∗ ⌜f = (st2 c i arg1 harg1 arg2 harg2 arg3 harg3 arg4 harg4 arg5 harg5 arg6 harg6 arg7 harg7 arg8 harg8 arg9 harg9 arg10 harg10 arg11 harg11 arg12 harg12 arg13 harg13 v166 X6 X9 X10 G11 G12 G13 n).2.1⌝) ∗ (∃ f, (arg13.view.loc (c : Thread nD τ) ↦[arg13.view.set]{fullShare} f) ∗ ⌜f = (st2 c i arg1 harg1 arg2 harg2 arg3 harg3 arg4 harg4 arg5 harg5 arg6 harg6 arg7 harg7 arg8 harg8 arg9 harg9 arg10 harg10 arg11 harg11 arg12 harg12 arg13 harg13 v166 X6 X9 X10 G11 G12 G13 n).2.2⌝))
  step k acc := by
    unfold k0_t2_body
    iintro ⟨H6, H9, H10, ⟨%f11, H11, %h11⟩, ⟨%f12, H12, %h12⟩, ⟨%f13, H13, %h13⟩⟩
    sl_exec
    sl_step
    isplitl [H6]; · iexact H6
    isplitl [H9]; · iexact H9
    isplitl [H10]; · iexact H10
    rw [st2_succ]
    subst h11 h12 h13
    isplitl [H11]
    · iexists _; isplitl [H11]; · iexact H11
      ipureintro; rfl
    isplitl [H12]
    · iexists _; isplitl [H12]; · iexact H12
      ipureintro; rfl
    iexists _; isplitl [H13]; · iexact H13
    ipureintro
    sl_unfold_run_names
    dsimp only
    unfold pieces2
    rfl

end Cert.KernelIdeal.Val

end
-- ==== Proof.KernelIdealDecode.lean ====
module

public import proofs.«01_k».proof.Proof.Gen.KernelIdeal.Skeleton
public import Idealize.ShloMosaic.Lib.Pointwise
public import Idealize.ShloMosaic.Lib.BitcastFour
public import Idealize.ShloMosaic.Lib.Bf16Pair

@[expose] public section

/-! What one step of the decoding stores, read at an index: a table entry times a block scale. -/

set_option maxRecDepth 16384

noncomputable section

namespace Cert.KernelIdeal.Val

open Idealize.ShloMosaic Idealize.ShloMosaic.TcCoe Idealize.SL.Sem
open Cert.KernelIdeal Cert.KernelIdeal.Gen

/-- A word made of four rows of bytes: row `4a` is its lowest byte. -/
theorem word_of_bytes (x : S32x128.Idx → BitVec 8) (h : S32x128.Bitcasts 8 S8x128 32) (a : Fin 8) (l : Fin 128) :
    bitcast S8x128 32 x h (ix2 a l)
      = x (ix2 (⟨4 * a.val + 3, by omega⟩ : Fin 32) l) ++ x (ix2 (⟨4 * a.val + 2, by omega⟩ : Fin 32) l)
        ++ x (ix2 (⟨4 * a.val + 1, by omega⟩ : Fin 32) l) ++ x (ix2 (⟨4 * a.val, by omega⟩ : Fin 32) l) := by
  apply BitVec.eq_of_getLsbD_eq
  intro i hi
  have hi : i < 32 := hi
  have hb := bitcast_8_32_getLsbD_ix2 x h a l i hi ⟨4 * a.val + i / 8, by omega⟩ rfl
  refine Eq.trans hb ?_
  change (x (ix2 (⟨4 * a.val + i / 8, by omega⟩ : Fin 32) l)).getLsbD (i % 8) = _
  simp only [BitVec.getLsbD_append]
  have hc : i / 8 = 0 ∨ i / 8 = 1 ∨ i / 8 = 2 ∨ i / 8 = 3 := by omega
  rcases hc with hc | hc | hc | hc
  · rw [if_pos (by omega)]
    simp only [hc, Nat.add_zero]; congr 1; omega
  · rw [if_neg (by omega), if_pos (by omega)]
    simp only [hc]; congr 1; omega
  · rw [if_neg (by omega), if_neg (by omega), if_pos (by omega)]
    simp only [hc]; congr 1; omega
  · rw [if_neg (by omega), if_neg (by omega), if_neg (by omega)]
    simp only [hc]; congr 1; omega

/-- A row of bytes cut from words: row `r` is byte `r % 4` of word `r / 4`. -/
theorem byte_of_word (x : S8x128.Idx → BitVec 32) (h : S8x128.Bitcasts 32 S32x128 8) (r : Fin 32) (l : Fin 128) :
    bitcast S32x128 8 x h (ix2 r l)
      = (x (ix2 (⟨r.val / 4, by omega⟩ : Fin 8) l)).extractLsb' (8 * (r.val % 4)) 8 := by
  apply BitVec.eq_of_getLsbD_eq
  intro i hi
  have hi : i < 8 := hi
  rw [bitcast_getLsbD x h (ix2 r l) i hi (by decide), BitVec.getLsbD_extractLsb', decide_eq_true hi, Bool.true_and]
  have hr : S32x128.row (ix2 r l) = r.val := rfl
  have e2 : (S32x128.row (ix2 r l) * 8 + i) % 32 = 8 * (r.val % 4) + i := by rw [hr]; omega
  have e1 : (S32x128.row (ix2 r l) * 8 + i) / 32 = r.val / 4 := by rw [hr]; omega
  rw [e2]
  refine congrArg (fun y => (x y).getLsbD _) ?_
  funext b
  apply Fin.ext
  fin_cases b
  · exact (Shape.Bitcasts.srcIdx_row h _ _ _ 0 rfl).trans e1
  · exact (Shape.Bitcasts.srcIdx_other h _ _ _ 1 (by decide))

/-- A row of half words cut from words: row `r` is half `r % 2` of word `r / 2`. -/
theorem half_of_word (x : S8x128.Idx → BitVec 32) (h : S8x128.Bitcasts 32 S16x128 16) (r : Fin 16) (l : Fin 128) :
    bitcast S16x128 16 x h (ix2 r l)
      = (x (ix2 (⟨r.val / 2, by omega⟩ : Fin 8) l)).extractLsb' (16 * (r.val % 2)) 16 := by
  rw [bitcast_32_16]
  have hr : S16x128.row (ix2 r l) = r.val := rfl
  have e : S16x128.row (ix2 r l) / 2 = r.val / 2 := by rw [hr]
  rw [show 16 * (S16x128.row (ix2 r l) % 2) = 16 * (r.val % 2) from by rw [hr]]
  refine congrArg (fun y => (x y).extractLsb' _ 16) ?_
  funext b
  apply Fin.ext
  fin_cases b
  · exact (Shape.Bitcasts.srcIdx_row h _ _ _ 0 rfl).trans e
  · exact (Shape.Bitcasts.srcIdx_other h _ _ _ 1 (by decide))

/-- The table entry for code `n`, in lane `l`: row `n` holds its low byte, row `n + 16` its high byte. -/
def entry (T : S32x128.Idx → BitVec 8) (n : Fin 16) (l : Fin 128) : EReal :=
  FloatOps.ofBits (F := Ideal) .bf16 (T (ix2 (⟨n.val + 16, by omega⟩ : Fin 32) l) ++ T (ix2 (⟨n.val, by omega⟩ : Fin 32) l))

/-- The code in the low half of a byte. -/
def loCode (b : BitVec 8) : Fin 16 := ⟨b.toNat % 16, by omega⟩

/-- The code in the high half of a byte. -/
def hiCode (b : BitVec 8) : Fin 16 := ⟨b.toNat / 16, by omega⟩

/-- The row of the table that a code byte selects: low bytes first. -/
theorem sel_lo : ∀ b : BitVec 8, ((b &&& 15#8).signExtend 32).toNat % 32 = b.toNat % 16
    ∧ (((b &&& 15#8) ||| 16#8).signExtend 32).toNat % 32 = b.toNat % 16 + 16 := by decide +kernel

/-- The same for the code in the high half. -/
theorem sel_hi : ∀ b : BitVec 8, ((b >>> 4).signExtend 32).toNat % 32 = b.toNat / 16
    ∧ (((b >>> 4) ||| 16#8).signExtend 32).toNat % 32 = b.toNat / 16 + 16 := by decide +kernel

/-- The bytes of a word put together from four. -/
theorem bytes_of_word (p q : BitVec 8) (x : BitVec 32) (hx : x = q ++ q ++ p ++ p) :
    x.extractLsb' 0 8 = p ∧ x.extractLsb' 8 8 = p ∧ x.extractLsb' 16 8 = q ∧ x.extractLsb' 24 8 = q := by
  have hb (i : ℕ) : x.getLsbD i = (q ++ q ++ p ++ p).getLsbD i := by rw [hx]
  refine ⟨?_, ?_, ?_, ?_⟩ <;>
    (apply BitVec.eq_of_getLsbD_eq; intro i hi
     simp only [BitVec.getLsbD_extractLsb', hb, BitVec.getLsbD_append, decide_eq_true hi, Bool.true_and]
     have hi : i < 8 := hi
     first
       | rw [if_pos (by omega)]; congr 1; omega
       | rw [if_neg (by omega), if_pos (by omega)]; congr 1; omega
       | rw [if_neg (by omega), if_neg (by omega), if_pos (by omega)]; congr 1; omega
       | rw [if_neg (by omega), if_neg (by omega), if_neg (by omega)]; congr 1; omega)

/-- Byte by byte, masking four low codes and marking the odd bytes. -/
theorem mask_lo (x : BitVec 32) (p q : BitVec 8) (h0 : x.extractLsb' 0 8 = p) (h1 : x.extractLsb' 8 8 = p)
    (h2 : x.extractLsb' 16 8 = q) (h3 : x.extractLsb' 24 8 = q) :
    ((x &&& 252645135#32) ||| 268439552#32).extractLsb' 0 8 = p &&& 15#8 ∧
    ((x &&& 252645135#32) ||| 268439552#32).extractLsb' 8 8 = (p &&& 15#8) ||| 16#8 ∧
    ((x &&& 252645135#32) ||| 268439552#32).extractLsb' 16 8 = q &&& 15#8 ∧
    ((x &&& 252645135#32) ||| 268439552#32).extractLsb' 24 8 = (q &&& 15#8) ||| 16#8 := by
  refine ⟨?_, ?_, ?_, ?_⟩
  · rw [← h0]; apply BitVec.eq_of_getLsbD_eq; intro i hi; interval_cases i <;> simp
  · rw [← h1]; apply BitVec.eq_of_getLsbD_eq; intro i hi; interval_cases i <;> simp
  · rw [← h2]; apply BitVec.eq_of_getLsbD_eq; intro i hi; interval_cases i <;> simp
  · rw [← h3]; apply BitVec.eq_of_getLsbD_eq; intro i hi; interval_cases i <;> simp

/-- The same for four high codes. -/
theorem mask_hi (x : BitVec 32) (p q : BitVec 8) (h0 : x.extractLsb' 0 8 = p) (h1 : x.extractLsb' 8 8 = p)
    (h2 : x.extractLsb' 16 8 = q) (h3 : x.extractLsb' 24 8 = q) :
    (((x >>> 4) &&& 252645135#32) ||| 268439552#32).extractLsb' 0 8 = p >>> 4 ∧
    (((x >>> 4) &&& 252645135#32) ||| 268439552#32).extractLsb' 8 8 = (p >>> 4) ||| 16#8 ∧
    (((x >>> 4) &&& 252645135#32) ||| 268439552#32).extractLsb' 16 8 = q >>> 4 ∧
    (((x >>> 4) &&& 252645135#32) ||| 268439552#32).extractLsb' 24 8 = (q >>> 4) ||| 16#8 := by
  refine ⟨?_, ?_, ?_, ?_⟩
  · rw [← h0]; apply BitVec.eq_of_getLsbD_eq; intro i hi; interval_cases i <;> simp
  · rw [← h1]; apply BitVec.eq_of_getLsbD_eq; intro i hi; interval_cases i <;> simp
  · rw [← h2]; apply BitVec.eq_of_getLsbD_eq; intro i hi; interval_cases i <;> simp
  · rw [← h3]; apply BitVec.eq_of_getLsbD_eq; intro i hi; interval_cases i <;> simp

/-- Two bytes make a half word: rows `2r` (low) and `2r + 1` (high). -/
theorem half_of_bytes (y : S32x128.Idx → BitVec 8) (h : S32x128.Bitcasts 8 S8x128 32) (h' : S8x128.Bitcasts 32 S16x128 16)
    (r : Fin 16) (l : Fin 128) :
    bitcast S16x128 16 (bitcast S8x128 32 y h) h' (ix2 r l)
      = y (ix2 (⟨2 * r.val + 1, by omega⟩ : Fin 32) l) ++ y (ix2 (⟨2 * r.val, by omega⟩ : Fin 32) l) := by
  rw [half_of_word, word_of_bytes]
  have hr := r.isLt
  rcases Nat.mod_two_eq_zero_or_one r.val with h2 | h2
  · have e0 : 4 * (r.val / 2) = 2 * r.val := by omega
    have e1 : 4 * (r.val / 2) + 1 = 2 * r.val + 1 := by omega
    simp only [h2, e0, Nat.mul_zero]
    apply BitVec.eq_of_getLsbD_eq; intro i hi
    have hi : i < 16 := hi
    simp only [BitVec.getLsbD_extractLsb', BitVec.getLsbD_append, Nat.zero_add, decide_eq_true hi, Bool.true_and]
    by_cases h8 : i < 8
    · rw [if_pos h8, if_pos h8]
    · rw [if_neg h8, if_neg h8, if_pos (by omega)]
  · have e2 : 4 * (r.val / 2) + 2 = 2 * r.val := by omega
    have e3 : 4 * (r.val / 2) + 3 = 2 * r.val + 1 := by omega
    simp only [h2, e2, e3, Nat.mul_one]
    apply BitVec.eq_of_getLsbD_eq; intro i hi
    have hi : i < 16 := hi
    simp only [BitVec.getLsbD_extractLsb', BitVec.getLsbD_append, decide_eq_true hi, Bool.true_and]
    by_cases h8 : i < 8
    · rw [if_neg (by omega), if_neg (by omega), if_pos (by omega), if_pos h8]
      congr 1; omega
    · rw [if_neg (by omega), if_neg (by omega), if_neg (by omega), if_neg h8]
      congr 1; omega

/-- A gather of rows, read at an index. -/
theorem gather_rows_apply (x : S32x128.Idx → BitVec 8) (idx : IVec S32x128 32) (r : Fin 32) (l : Fin 128) :
    dynamicGather (s := S32x128) 0 x idx (ix2 r l) = x (ix2 (⟨(idx (ix2 r l)).toNat % 32, Nat.mod_lt _ (by decide)⟩ : Fin 32) l) := by
  unfold dynamicGather
  refine congrArg x (funext fun b => ?_)
  fin_cases b <;> rfl

/-- The table entries looked up by words of four code bytes. -/
abbrev look (T : S32x128.Idx → BitVec 8) (d : IVec S8x128 32) : FVec Ideal S16x128 .bf16 :=
  bitcastToFloat (F := Ideal) .bf16 (bitcast S16x128 16 (bitcast S8x128 32 (dynamicGather (s := S32x128) 0 T
    (shapeCast S32x128 (shapeCast S32x128x1 (extsi 32 (bitcast S32x128 8 d bitcasts_S8x128_w32_S32x128_w8) natLt_8_32)
      shapeCasts_S32x128_S32x128x1) shapeCasts_S32x128x1_S32x128)) bitcasts_S32x128_w8_S8x128_w32) bitcasts_S8x128_w32_S16x128_w16)

/-- A lookup read at an index, when the selecting bytes of its row are a code's two. -/
theorem look_apply (T : S32x128.Idx → BitVec 8) (d : IVec S8x128 32) (r : Fin 16) (l : Fin 128) (n : Fin 16) (b0 b1 : BitVec 8)
    (h0 : (d (ix2 (⟨r.val / 2, by omega⟩ : Fin 8) l)).extractLsb' (16 * (r.val % 2)) 8 = b0)
    (h1 : (d (ix2 (⟨r.val / 2, by omega⟩ : Fin 8) l)).extractLsb' (16 * (r.val % 2) + 8) 8 = b1)
    (s0 : (b0.signExtend 32).toNat % 32 = n.val) (s1 : (b1.signExtend 32).toNat % 32 = n.val + 16) :
    look T d (ix2 r l) = entry T n l := by
  have hr := r.isLt
  have idx_at (ρ : Fin 32) : shapeCast S32x128 (shapeCast S32x128x1 (extsi 32 (bitcast S32x128 8 d bitcasts_S8x128_w32_S32x128_w8) natLt_8_32)
      shapeCasts_S32x128_S32x128x1) shapeCasts_S32x128x1_S32x128 (ix2 ρ l)
      = ((d (ix2 (⟨ρ.val / 4, by omega⟩ : Fin 8) l)).extractLsb' (8 * (ρ.val % 4)) 8).signExtend 32 := by
    rw [← byte_of_word d bitcasts_S8x128_w32_S32x128_w8 ρ l]
    pointwise
  unfold entry
  show FloatOps.ofBits (F := Ideal) .bf16 _ = _
  rw [half_of_bytes, gather_rows_apply, gather_rows_apply, idx_at, idx_at]
  have e0 : (2 * r.val) / 4 = r.val / 2 := by omega
  have e1 : (2 * r.val + 1) / 4 = r.val / 2 := by omega
  have m0 : 8 * ((2 * r.val) % 4) = 16 * (r.val % 2) := by omega
  have m1 : 8 * ((2 * r.val + 1) % 4) = 16 * (r.val % 2) + 8 := by omega
  simp only [e0, e1, m0, m1, h0, h1, s0, s1]

/-- Four low codes masked out of a word, each marked twice, look up the low codes' entries. -/
theorem look_lo (T : S32x128.Idx → BitVec 8) (x : IVec S8x128 32) (w : Fin 16 → BitVec 8) (r : Fin 16) (l : Fin 128)
    (hx : ∀ a : Fin 8, x (ix2 a l) = w ⟨2 * a.val + 1, by omega⟩ ++ w ⟨2 * a.val + 1, by omega⟩ ++ w ⟨2 * a.val, by omega⟩ ++ w ⟨2 * a.val, by omega⟩) :
    look T (ori (andi x (broadcast S8x128 252645135#32)) (broadcast S8x128 268439552#32)) (ix2 r l) = entry T (loCode (w r)) l := by
  have hd : ori (andi x (broadcast S8x128 252645135#32)) (broadcast S8x128 268439552#32) (ix2 (⟨r.val / 2, by omega⟩ : Fin 8) l)
      = (w ⟨2 * (r.val / 2) + 1, by omega⟩ ++ w ⟨2 * (r.val / 2) + 1, by omega⟩ ++ w ⟨2 * (r.val / 2), by omega⟩ ++ w ⟨2 * (r.val / 2), by omega⟩)
        &&& 252645135#32 ||| 268439552#32 := by
    show (x _ &&& _) ||| _ = _
    rw [hx]; rfl
  obtain ⟨g0, g1, g2, g3⟩ := bytes_of_word (w ⟨2 * (r.val / 2), by omega⟩) (w ⟨2 * (r.val / 2) + 1, by omega⟩) _ rfl
  obtain ⟨m0, m1, m2, m3⟩ := mask_lo _ _ _ g0 g1 g2 g3
  rcases Nat.mod_two_eq_zero_or_one r.val with h2 | h2
  · have er : (⟨2 * (r.val / 2), by omega⟩ : Fin 16) = r := Fin.ext (by show 2 * (r.val / 2) = r.val; omega)
    refine look_apply T _ r l _ _ _ ?_ ?_ (sel_lo (w r)).1 (sel_lo (w r)).2
    · rw [hd, h2]; exact m0.trans (by rw [er])
    · rw [hd, h2]; exact m1.trans (by rw [er])
  · have er : (⟨2 * (r.val / 2) + 1, by omega⟩ : Fin 16) = r := Fin.ext (by show 2 * (r.val / 2) + 1 = r.val; omega)
    refine look_apply T _ r l _ _ _ ?_ ?_ (sel_lo (w r)).1 (sel_lo (w r)).2
    · rw [hd, h2]; exact m2.trans (by rw [er])
    · rw [hd, h2]; exact m3.trans (by rw [er])

/-- The same for the high codes. -/
theorem look_hi (T : S32x128.Idx → BitVec 8) (x : IVec S8x128 32) (w : Fin 16 → BitVec 8) (r : Fin 16) (l : Fin 128)
    (hx : ∀ a : Fin 8, x (ix2 a l) = w ⟨2 * a.val + 1, by omega⟩ ++ w ⟨2 * a.val + 1, by omega⟩ ++ w ⟨2 * a.val, by omega⟩ ++ w ⟨2 * a.val, by omega⟩) :
    look T (ori (andi (shrui x (broadcast S8x128 4#32)) (broadcast S8x128 252645135#32)) (broadcast S8x128 268439552#32)) (ix2 r l)
      = entry T (hiCode (w r)) l := by
  have hd : ori (andi (shrui x (broadcast S8x128 4#32)) (broadcast S8x128 252645135#32)) (broadcast S8x128 268439552#32) (ix2 (⟨r.val / 2, by omega⟩ : Fin 8) l)
      = ((w ⟨2 * (r.val / 2) + 1, by omega⟩ ++ w ⟨2 * (r.val / 2) + 1, by omega⟩ ++ w ⟨2 * (r.val / 2), by omega⟩ ++ w ⟨2 * (r.val / 2), by omega⟩) >>> 4)
        &&& 252645135#32 ||| 268439552#32 := by
    have hs : shrui x (broadcast S8x128 4#32) (ix2 (⟨r.val / 2, by omega⟩ : Fin 8) l) = x (ix2 (⟨r.val / 2, by omega⟩ : Fin 8) l) >>> 4 := rfl
    exact congrArg (fun z => (z &&& 252645135#32) ||| 268439552#32) (hs.trans (by rw [hx]))
  obtain ⟨g0, g1, g2, g3⟩ := bytes_of_word (w ⟨2 * (r.val / 2), by omega⟩) (w ⟨2 * (r.val / 2) + 1, by omega⟩) _ rfl
  obtain ⟨m0, m1, m2, m3⟩ := mask_hi _ _ _ g0 g1 g2 g3
  rcases Nat.mod_two_eq_zero_or_one r.val with h2 | h2
  · have er : (⟨2 * (r.val / 2), by omega⟩ : Fin 16) = r := Fin.ext (by show 2 * (r.val / 2) = r.val; omega)
    refine look_apply T _ r l _ _ _ ?_ ?_ (sel_hi (w r)).1 (sel_hi (w r)).2
    · rw [hd, h2]; exact m0.trans (by rw [er])
    · rw [hd, h2]; exact m1.trans (by rw [er])
  · have er : (⟨2 * (r.val / 2) + 1, by omega⟩ : Fin 16) = r := Fin.ext (by show 2 * (r.val / 2) + 1 = r.val; omega)
    refine look_apply T _ r l _ _ _ ?_ ?_ (sel_hi (w r)).1 (sel_hi (w r)).2
    · rw [hd, h2]; exact m2.trans (by rw [er])
    · rw [hd, h2]; exact m3.trans (by rw [er])

/-- The constants that list every row of half a tile twice. -/
theorem dup_rows : ∀ a : Fin 8, ∀ c : Fin 4,
    (((((2#32 * BitVec.ofNat 32 a.val) * 16843009#32 + 16842752#32)).extractLsb' (8 * c.val) 8).signExtend 32).toNat % 32 = 2 * a.val + c.val / 2
    ∧ (((((2#32 * BitVec.ofNat 32 a.val) * 16843009#32 + 286330896#32)).extractLsb' (8 * c.val) 8).signExtend 32).toNat % 32 = 2 * a.val + c.val / 2 + 16 := by
  decide +kernel

/-- Words of a row of codes twice, from the first sixteen rows of a tile. -/
theorem twice_lo (v : Vec Ideal S32x128 .i8) (a : Fin 8) (l : Fin 128) :
    k0_pay11 (F := Ideal) k0_pay54 v (ix2 a l)
      = v (ix2 (⟨2 * a.val + 1, by omega⟩ : Fin 32) l) ++ v (ix2 (⟨2 * a.val + 1, by omega⟩ : Fin 32) l) ++ v (ix2 (⟨2 * a.val, by omega⟩ : Fin 32) l) ++ v (ix2 (⟨2 * a.val, by omega⟩ : Fin 32) l) := by
  have ha := a.isLt
  have idx_at (ρ : Fin 32) : shapeCast S32x128 (shapeCast S32x128x1 (extsi 32 k0_pay54 natLt_8_32)
      shapeCasts_S32x128_S32x128x1) shapeCasts_S32x128x1_S32x128 (ix2 ρ l)
      = (((2#32 * BitVec.ofNat 32 (ρ.val / 4)) * 16843009#32 + 16842752#32).extractLsb' (8 * (ρ.val % 4)) 8).signExtend 32 := by
    have h := byte_of_word (addi (muli (muli (broadcast S8x128 2#32) (iota .tc S8x128 32 [0] iota_S8x128_d0_w32)) (broadcast S8x128 16843009#32)) (broadcast S8x128 16842752#32))
      bitcasts_S8x128_w32_S32x128_w8 ρ l
    have h2 : shapeCast S32x128 (shapeCast S32x128x1 (extsi 32 k0_pay54 natLt_8_32)
      shapeCasts_S32x128_S32x128x1) shapeCasts_S32x128x1_S32x128 (ix2 ρ l) = (k0_pay54 (ix2 ρ l)).signExtend 32 := by pointwise
    rw [h2]
    refine congrArg (BitVec.signExtend 32) (Eq.trans h ?_)
    refine congrArg (BitVec.extractLsb' _ 8) ?_
    pointwise
    rfl
  have d0 : ((((2#32 * BitVec.ofNat 32 a.val) * 16843009#32 + 16842752#32).extractLsb' (8 * 0) 8).signExtend 32).toNat % 32 = 2 * a.val := (dup_rows a 0).1
  have d1 : ((((2#32 * BitVec.ofNat 32 a.val) * 16843009#32 + 16842752#32).extractLsb' (8 * 1) 8).signExtend 32).toNat % 32 = 2 * a.val := (dup_rows a 1).1
  have d2 : ((((2#32 * BitVec.ofNat 32 a.val) * 16843009#32 + 16842752#32).extractLsb' (8 * 2) 8).signExtend 32).toNat % 32 = 2 * a.val + 1 := (dup_rows a 2).1
  have d3 : ((((2#32 * BitVec.ofNat 32 a.val) * 16843009#32 + 16842752#32).extractLsb' (8 * 3) 8).signExtend 32).toNat % 32 = 2 * a.val + 1 := (dup_rows a 3).1
  have e0 : 4 * a.val / 4 = a.val := by omega
  have e1 : (4 * a.val + 1) / 4 = a.val := by omega
  have e2 : (4 * a.val + 2) / 4 = a.val := by omega
  have e3 : (4 * a.val + 3) / 4 = a.val := by omega
  have m0 : 4 * a.val % 4 = 0 := by omega
  have m1 : (4 * a.val + 1) % 4 = 1 := by omega
  have m2 : (4 * a.val + 2) % 4 = 2 := by omega
  have m3 : (4 * a.val + 3) % 4 = 3 := by omega
  unfold k0_pay11
  rw [word_of_bytes]
  simp only [gather_rows_apply, idx_at, e0, e1, e2, e3, m0, m1, m2, m3, d0, d1, d2, d3]

/-- Words of a row of codes twice, from the last sixteen rows of a tile. -/
theorem twice_hi (v : Vec Ideal S32x128 .i8) (a : Fin 8) (l : Fin 128) :
    k0_pay16 (F := Ideal) k0_pay55 v (ix2 a l)
      = v (ix2 (⟨2 * a.val + 1 + 16, by omega⟩ : Fin 32) l) ++ v (ix2 (⟨2 * a.val + 1 + 16, by omega⟩ : Fin 32) l) ++ v (ix2 (⟨2 * a.val + 16, by omega⟩ : Fin 32) l) ++ v (ix2 (⟨2 * a.val + 16, by omega⟩ : Fin 32) l) := by
  have ha := a.isLt
  have idx_at (ρ : Fin 32) : shapeCast S32x128 (shapeCast S32x128x1 (extsi 32 k0_pay55 natLt_8_32)
      shapeCasts_S32x128_S32x128x1) shapeCasts_S32x128x1_S32x128 (ix2 ρ l)
      = (((2#32 * BitVec.ofNat 32 (ρ.val / 4)) * 16843009#32 + 286330896#32).extractLsb' (8 * (ρ.val % 4)) 8).signExtend 32 := by
    have h := byte_of_word (addi (muli (muli (broadcast S8x128 2#32) (iota .tc S8x128 32 [0] iota_S8x128_d0_w32)) (broadcast S8x128 16843009#32)) (broadcast S8x128 286330896#32))
      bitcasts_S8x128_w32_S32x128_w8 ρ l
    have h2 : shapeCast S32x128 (shapeCast S32x128x1 (extsi 32 k0_pay55 natLt_8_32)
      shapeCasts_S32x128_S32x128x1) shapeCasts_S32x128x1_S32x128 (ix2 ρ l) = (k0_pay55 (ix2 ρ l)).signExtend 32 := by pointwise
    rw [h2]
    refine congrArg (BitVec.signExtend 32) (Eq.trans h ?_)
    refine congrArg (BitVec.extractLsb' _ 8) ?_
    pointwise
    rfl
  have d0 : ((((2#32 * BitVec.ofNat 32 a.val) * 16843009#32 + 286330896#32).extractLsb' (8 * 0) 8).signExtend 32).toNat % 32 = 2 * a.val + 16 := (dup_rows a 0).2
  have d1 : ((((2#32 * BitVec.ofNat 32 a.val) * 16843009#32 + 286330896#32).extractLsb' (8 * 1) 8).signExtend 32).toNat % 32 = 2 * a.val + 16 := (dup_rows a 1).2
  have d2 : ((((2#32 * BitVec.ofNat 32 a.val) * 16843009#32 + 286330896#32).extractLsb' (8 * 2) 8).signExtend 32).toNat % 32 = 2 * a.val + 1 + 16 := (dup_rows a 2).2
  have d3 : ((((2#32 * BitVec.ofNat 32 a.val) * 16843009#32 + 286330896#32).extractLsb' (8 * 3) 8).signExtend 32).toNat % 32 = 2 * a.val + 1 + 16 := (dup_rows a 3).2
  have e0 : 4 * a.val / 4 = a.val := by omega
  have e1 : (4 * a.val + 1) / 4 = a.val := by omega
  have e2 : (4 * a.val + 2) / 4 = a.val := by omega
  have e3 : (4 * a.val + 3) / 4 = a.val := by omega
  have m0 : 4 * a.val % 4 = 0 := by omega
  have m1 : (4 * a.val + 1) % 4 = 1 := by omega
  have m2 : (4 * a.val + 2) % 4 = 2 := by omega
  have m3 : (4 * a.val + 3) % 4 = 3 := by omega
  unfold k0_pay16
  rw [word_of_bytes]
  simp only [gather_rows_apply, idx_at, e0, e1, e2, e3, m0, m1, m2, m3, d0, d1, d2, d3]

/-- The lane that holds column `l`'s scale: one lane per 32 columns. -/
theorem lane_of_column : ∀ (j : Fin 10) (t : Fin 2) (l : Fin 128),
    IntOp.addi (Scalar.select (IntOp.andi (IntOp.cmpi .ne (IntOp.subi ((IntOp.cmpi .sgt (BitVec.ofNat 32 l.val) 0#32).setWidth 32) ((IntOp.cmpi .slt (BitVec.ofNat 32 l.val) 0#32).setWidth 32))
        (Scalar.subi (Scalar.extui (Scalar.cmpi .sgt 32#32 0#32)) (Scalar.extui (Scalar.cmpi .slt 32#32 0#32))))
      (IntOp.cmpi .ne (IntOp.remsi .vector (BitVec.ofNat 32 l.val) 32#32) 0#32)) (IntOp.subi (IntOp.divsi .vector (BitVec.ofNat 32 l.val) 32#32) 1#32) (IntOp.divsi .vector (BitVec.ofNat 32 l.val) 32#32))
      (Scalar.divsi (Scalar.addi (Scalar.muli (Scf.iv 0#32 1#32 j.val) 256#32) (Scalar.muli (Scf.iv 0#32 1#32 t.val) 128#32)) 32#32)
      = BitVec.ofNat 32 (8 * j.val + 4 * t.val + l.val / 32) := by decide +kernel

/-- The scale lanes of a tile of columns. -/
theorem lanes_at (j : Fin k0_t2_loop.trips) (t : Fin k0_t3_loop.trips) (a : Fin 8) (l : Fin 128) :
    k0_pay56 j t (ix2 a l) = BitVec.ofNat 32 (8 * j.val + 4 * t.val + l.val / 32) := by
  pointwise [k0_pay56]
  exact lane_of_column ⟨j.val, Nat.lt_of_lt_of_le j.isLt k0_t2_abs.2.1⟩ ⟨t.val, Nat.lt_of_lt_of_le t.isLt k0_t3_abs.2.1⟩ l

/-- A small lane number is not negative, so the wrap-around leaves it. -/
theorem wrap_lane : ∀ m : Fin 128, (Scalar.select (IntOp.cmpi .slt (BitVec.ofNat 32 m.val) 0#32) (IntOp.addi (BitVec.ofNat 32 m.val) 128#32) (BitVec.ofNat 32 m.val)).toNat % 128 = m.val := by
  decide +kernel

/-- The scales of sixteen rows, gathered from one lane. -/
theorem scales_at (v : IVec S8x128 32) (raw : Vec Ideal S8x2x128 .bf16) (r : Fin 16) (l m : Fin 128)
    (h : ∀ a : Fin 8, v (ix2 a l) = BitVec.ofNat 32 m.val) :
    k0_pay12 (F := Ideal) v raw (ix2 r l) = raw (ix3 (⟨r.val / 2, by omega⟩ : Fin 8) (⟨r.val % 2, by omega⟩ : Fin 2) m) := by
  unfold k0_pay12
  simp only [interleaveRows_rowsOfParity]
  have hr := r.isLt
  pointwise [dynamicGather, h]
  have hd : (if h : r.val < 8 then BitVec.ofNat 32 m.val else BitVec.ofNat 32 m.val) = BitVec.ofNat 32 m.val := by split <;> rfl
  simp only [hd, wrap_lane]
  rcases Nat.mod_two_eq_zero_or_one r.val with h2 | h2
  · simp only [h2]; rfl
  · simp only [h2]; rfl

/-- The low halves' weights of the first sixteen rows. -/
theorem tile_lo0 (T : Vec Ideal S32x128 .i8) (v : IVec S8x128 32) (w : Vec Ideal S32x128 .i8) (raw : Vec Ideal S8x2x128 .bf16) (r : Fin 16) (l m : Fin 128)
    (h : ∀ a : Fin 8, v (ix2 a l) = BitVec.ofNat 32 m.val) :
    k0_pay14 (F := Ideal) (k0_pay13 (F := Ideal) T k0_pay54 v w raw) (ix3 (0 : Fin 1) r l)
      = entry T (loCode (w (ix2 (⟨r.val, by omega⟩ : Fin 32) l))) l * raw (ix3 (⟨r.val / 2, by omega⟩ : Fin 8) (⟨r.val % 2, by omega⟩ : Fin 2) m) := by
  rw [← scales_at v raw r l m h, ← look_lo T _ (fun ρ => w (ix2 (⟨ρ.val, by omega⟩ : Fin 32) l)) r l fun a => twice_lo w a l]
  unfold k0_pay14 k0_pay13
  pointwise

/-- The high halves' weights of the first sixteen rows. -/
theorem tile_hi0 (T : Vec Ideal S32x128 .i8) (v : IVec S8x128 32) (w : Vec Ideal S32x128 .i8) (raw : Vec Ideal S8x2x128 .bf16) (r : Fin 16) (l m : Fin 128)
    (h : ∀ a : Fin 8, v (ix2 a l) = BitVec.ofNat 32 m.val) :
    k0_pay15 (F := Ideal) T (k0_pay11 (F := Ideal) k0_pay54 w) (k0_pay12 (F := Ideal) v raw) (ix3 (0 : Fin 1) r l)
      = entry T (hiCode (w (ix2 (⟨r.val, by omega⟩ : Fin 32) l))) l * raw (ix3 (⟨r.val / 2, by omega⟩ : Fin 8) (⟨r.val % 2, by omega⟩ : Fin 2) m) := by
  rw [← scales_at v raw r l m h, ← look_hi T _ (fun ρ => w (ix2 (⟨ρ.val, by omega⟩ : Fin 32) l)) r l fun a => twice_lo w a l]
  unfold k0_pay15
  pointwise

/-- The low halves' weights of the last sixteen rows. -/
theorem tile_lo1 (T : Vec Ideal S32x128 .i8) (v : IVec S8x128 32) (w : Vec Ideal S32x128 .i8) (raw : Vec Ideal S8x2x128 .bf16) (r : Fin 16) (l m : Fin 128)
    (h : ∀ a : Fin 8, v (ix2 a l) = BitVec.ofNat 32 m.val) :
    k0_pay58 (F := Ideal) T (k0_pay16 (F := Ideal) k0_pay55 w) (k0_pay17 (F := Ideal) raw) (k0_pay18 v) (ix3 (0 : Fin 1) r l)
      = entry T (loCode (w (ix2 (⟨r.val + 16, by omega⟩ : Fin 32) l))) l * raw (ix3 (⟨r.val / 2, by omega⟩ : Fin 8) (⟨r.val % 2, by omega⟩ : Fin 2) m) := by
  rw [← scales_at v raw r l m h, ← look_lo T _ (fun ρ => w (ix2 (⟨ρ.val + 16, by omega⟩ : Fin 32) l)) r l fun a => twice_hi w a l]
  unfold k0_pay58
  pointwise
  rfl

/-- The high halves' weights of the last sixteen rows. -/
theorem tile_hi1 (T : Vec Ideal S32x128 .i8) (v : IVec S8x128 32) (w : Vec Ideal S32x128 .i8) (raw : Vec Ideal S8x2x128 .bf16) (r : Fin 16) (l m : Fin 128)
    (h : ∀ a : Fin 8, v (ix2 a l) = BitVec.ofNat 32 m.val) :
    k0_pay59 (F := Ideal) T (k0_pay16 (F := Ideal) k0_pay55 w) (k0_pay17 (F := Ideal) raw) (k0_pay18 v) (ix3 (0 : Fin 1) r l)
      = entry T (hiCode (w (ix2 (⟨r.val + 16, by omega⟩ : Fin 32) l))) l * raw (ix3 (⟨r.val / 2, by omega⟩ : Fin 8) (⟨r.val % 2, by omega⟩ : Fin 2) m) := by
  rw [← scales_at v raw r l m h, ← look_hi T _ (fun ρ => w (ix2 (⟨ρ.val + 16, by omega⟩ : Fin 32) l)) r l fun a => twice_hi w a l]
  unfold k0_pay59
  pointwise
  rfl

end Cert.KernelIdeal.Val
-- ==== Proof.KernelIdealTile.lean ====
/- The weights one block of 128 columns decodes: which rows and lanes of the two scratch buffers hold which entry of the table
   times which scale, after any number of trips of the innermost loop. -/
module

public import proofs.«01_k».proof.Proof.Gen.KernelIdeal.Loops
public import proofs.«01_k».proof.Proof.KernelIdealDecode
public import Idealize.ShloMosaic.Lib.VecWindow

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A load of a rectangle read at an index of it: the buffer's entry at the offset index. -/
theorem readAt_at {κ : Kind} {sp : Space} {s : Shape} {e : EltTy} {Val : EltTy → Type} (v : View sig κ sp s e) (f : v.ty.Contents Val)
    {off off' size : Fin s.rank → ℕ} (inb : ∀ a, off a + size a ≤ s.size a) (h : off = off') (y : (Rect.unit off size inb).shape.Idx) (z : s.Idx)
    (hz : ∀ a, (z a).val = off' a + (y a).val) :
    v.readAt Val (Rect.unit off size inb).toLoadRect f y = v.read Val f z := by
  subst h
  refine congrArg (v.read Val f) (funext fun a => Fin.ext ?_)
  show off a + 1 * (y a).val = (z a).val
  rw [hz a, Nat.one_mul]

/-- A decoded weight: the table entry of a code times the scale of its block of 32 columns. -/
def weight (code : BitVec 8 → Fin 16) (T : Vec Ideal S32x128 .i8) (w : Vec Ideal S512x2560 .i8) (a : Vec Ideal S256x2x128 .bf16) (k : Fin 512) (p : Fin 2560) : EReal :=
  entry T (code (w (ix2 k p))) (⟨p.val % 128, Nat.mod_lt _ (by decide)⟩ : Fin 128)
    * a (ix3 (⟨k.val / 2, by omega⟩ : Fin 256) (⟨k.val % 2, by omega⟩ : Fin 2) (⟨p.val / 32, by omega⟩ : Fin 128))

/-- A counter of loop 2 is below the loop's bound. -/
theorem t2_lt (j : Fin k0_t2_loop.trips) : j.val < 10 := Nat.lt_of_lt_of_le j.isLt k0_t2_abs.2.1
/-- A counter of loop 3 is below the loop's bound. -/
theorem t3_lt (t : Fin k0_t3_loop.trips) : t.val < 2 := Nat.lt_of_lt_of_le t.isLt k0_t3_abs.2.1
/-- A counter of loop 4 is below the loop's bound. -/
theorem t4_lt (k : Fin k0_t4_loop.trips) : k.val < 16 := Nat.lt_of_lt_of_le k.isLt k0_t4_abs.2.1

/-- Column `q` of block `j` of 256 columns. -/
def col (j : Fin k0_t2_loop.trips) (q : Fin 256) : Fin 2560 := ⟨256 * j.val + q.val, by have := t2_lt j; omega⟩

/-- Rows a trip has decoded, in one slot's half block. -/
def done (j : Fin k0_t2_loop.trips) (t : ℕ) (lo hi : ℕ) (s : Fin 2) (k : Fin 512) (q : Fin 256) : Prop :=
  s.val = j.val % 2 ∧ (lo ≤ k.val ∧ k.val < hi) ∧ (128 * t ≤ q.val ∧ q.val < 128 * t + 128)

instance (j : Fin k0_t2_loop.trips) (t lo hi : ℕ) (s : Fin 2) (k : Fin 512) (q : Fin 256) : Decidable (done j t lo hi s k q) := by
  unfold done; infer_instance

/-- What one trip leaves in the low halves' scratch, read at an index. -/
theorem trip_read11 (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (v166 : Vec Ideal S32x128 .i8) (j : Fin k0_t2_loop.trips) (arg14 : BitVec 32) (t : Fin k0_t3_loop.trips) (arg15 : BitVec 32) (v220 : BitVec 32)
    (X6 : BufTy.Contents (Elt Ideal) arg6.view.ty) (X10 : BufTy.Contents (Elt Ideal) arg10.view.ty) (k : Fin k0_t4_loop.trips)
    (G : BufTy.Contents (Elt Ideal) arg11.view.ty) (s : Fin 2) (κ : Fin 512) (q : Fin 256) :
    arg11.view.read (Elt Ideal) (arg11.view.writes (Elt Ideal) G (tripL_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 v166 j arg14 t arg15 v220 X6 X10 k).1) (ix3 s κ q)
      = if done j t.val (32 * k.val) (32 * k.val + 32) s κ q then weight loCode v166 (arg6.view.read (Elt Ideal) X6) (arg10.view.read (Elt Ideal) X10) κ (col j q)
        else arg11.view.read (Elt Ideal) G (ix3 s κ q) := by
  have hj := t2_lt j; have ht := t3_lt t; have hk := t4_lt k
  have hs := s.isLt; have hκ := κ.isLt; have hq := q.isLt
  unfold tripL_k0_t4 trip_k0_t4
  dsimp only
  have o1 : k0_off6 j t k 16#32 = ![j.val % 2, 32 * k.val + 16, 128 * t.val] := k0_off6_eq j t k 1
  have o0 : k0_off6 j t k 0#32 = ![j.val % 2, 32 * k.val, 128 * t.val] := k0_off6_eq j t k 0
  have a1 : k0_off5 k 16#32 = ![16 * k.val + 8, 0, 0] := k0_off5_eq k 1
  have a0 : k0_off5 k 0#32 = ![16 * k.val, 0, 0] := k0_off5_eq k 0
  by_cases h : done j t.val (32 * k.val) (32 * k.val + 32) s κ q
  · rw [if_pos h]
    obtain ⟨h0, ⟨h1, h1'⟩, h2, h2'⟩ := h
    have e1 : q.val - 128 * t.val = (256 * j.val + q.val) % 128 := by omega
    have e2 : 8 * j.val + 4 * t.val + (q.val - 128 * t.val) / 32 = (256 * j.val + q.val) / 32 := by omega
    by_cases hr : κ.val < 32 * k.val + 16
    · refine Eq.trans (View.read_writes_cons_unit_of_not_mem arg11.view G _ _ _ (ix3 s κ q) o1 (1 : Fin 3) (Or.inl hr)) ?_
      refine Eq.trans (View.read_writes_cons_unit_of_mem arg11.view G _ _ _ (ix3 s κ q)
        (ix3 (0 : Fin 1) (⟨κ.val - 32 * k.val, by omega⟩ : Fin 16) (⟨q.val - 128 * t.val, by omega⟩ : Fin 128)) o0
        (fun a => by fin_cases a; exacts [by show s.val = j.val % 2 + 0; omega, by show κ.val = 32 * k.val + (κ.val - 32 * k.val); omega, by show q.val = 128 * t.val + (q.val - 128 * t.val); omega])) ?_
      refine (tile_lo0 v166 _ _ _ _ _ (⟨8 * j.val + 4 * t.val + (q.val - 128 * t.val) / 32, by omega⟩ : Fin 128) (fun a => lanes_at j t a _)).trans ?_
      unfold weight
      refine congrArg₂ (· * ·) (congrArg₂ (fun x l => entry v166 (loCode x) l)
        (readAt_at arg6.view X6 _ (k0_off4_eq j t k) _ (ix2 κ (col j q)) (fun a => by
          fin_cases a
          · show κ.val = 32 * k.val + (κ.val - 32 * k.val); omega
          · show 256 * j.val + q.val = 256 * j.val + 128 * t.val + (q.val - 128 * t.val); omega)) (Fin.ext e1))
        (readAt_at arg10.view X10 _ a0 _ (ix3 (⟨κ.val / 2, by omega⟩ : Fin 256) (⟨κ.val % 2, by omega⟩ : Fin 2) (⟨(col j q).val / 32, by have := (col j q).isLt; omega⟩ : Fin 128)) (fun a => by
          fin_cases a
          · show κ.val / 2 = 16 * k.val + (κ.val - 32 * k.val) / 2; omega
          · show κ.val % 2 = 0 + (κ.val - 32 * k.val) % 2; omega
          · show (256 * j.val + q.val) / 32 = 0 + (8 * j.val + 4 * t.val + (q.val - 128 * t.val) / 32); omega))
    · refine Eq.trans (View.read_writes_cons_unit_of_mem arg11.view G _ _ _ (ix3 s κ q)
        (ix3 (0 : Fin 1) (⟨κ.val - (32 * k.val + 16), by omega⟩ : Fin 16) (⟨q.val - 128 * t.val, by omega⟩ : Fin 128)) o1
        (fun a => by fin_cases a; exacts [by show s.val = j.val % 2 + 0; omega, by show κ.val = 32 * k.val + 16 + (κ.val - (32 * k.val + 16)); omega, by show q.val = 128 * t.val + (q.val - 128 * t.val); omega])) ?_
      refine (tile_lo1 v166 _ _ _ _ _ (⟨8 * j.val + 4 * t.val + (q.val - 128 * t.val) / 32, by omega⟩ : Fin 128) (fun a => lanes_at j t a _)).trans ?_
      unfold weight
      refine congrArg₂ (· * ·) (congrArg₂ (fun x l => entry v166 (loCode x) l)
        (readAt_at arg6.view X6 _ (k0_off4_eq j t k) _ (ix2 κ (col j q)) (fun a => by
          fin_cases a
          · show κ.val = 32 * k.val + (κ.val - (32 * k.val + 16) + 16); omega
          · show 256 * j.val + q.val = 256 * j.val + 128 * t.val + (q.val - 128 * t.val); omega)) (Fin.ext e1))
        (readAt_at arg10.view X10 _ a1 _ (ix3 (⟨κ.val / 2, by omega⟩ : Fin 256) (⟨κ.val % 2, by omega⟩ : Fin 2) (⟨(col j q).val / 32, by have := (col j q).isLt; omega⟩ : Fin 128)) (fun a => by
          fin_cases a
          · show κ.val / 2 = 16 * k.val + 8 + (κ.val - (32 * k.val + 16)) / 2; omega
          · show κ.val % 2 = 0 + (κ.val - (32 * k.val + 16)) % 2; omega
          · show (256 * j.val + q.val) / 32 = 0 + (8 * j.val + 4 * t.val + (q.val - 128 * t.val) / 32); omega))
  · rw [if_neg h]
    have miss (off : Fin 3 → ℕ) (o : ℕ) (ho : off = ![j.val % 2, o, 128 * t.val]) (hlo : 32 * k.val ≤ o) (hhi : o + 16 ≤ 32 * k.val + 32)
        (inb : ∀ a, off a + S1x16x128.size a ≤ S2x512x256.size a) (p : _) (L : List (View.Piece (Elt Ideal) S2x512x256 .bf16)) :
        arg11.view.read (Elt Ideal) (arg11.view.writes (Elt Ideal) G ((⟨Rect.unit off S1x16x128.size inb, p⟩ : View.Piece (Elt Ideal) S2x512x256 .bf16) :: L)) (ix3 s κ q)
          = arg11.view.read (Elt Ideal) (arg11.view.writes (Elt Ideal) G L) (ix3 s κ q) := by
      by_cases c0 : s.val = j.val % 2
      · by_cases c1 : o ≤ κ.val ∧ κ.val < o + 16
        · refine View.read_writes_cons_unit_of_not_mem arg11.view G inb p L _ ho (2 : Fin 3) ?_
          show q.val < 128 * t.val ∨ 128 * t.val + 128 ≤ q.val
          by_contra hc
          exact h ⟨c0, by omega, by omega⟩
        · refine View.read_writes_cons_unit_of_not_mem arg11.view G inb p L _ ho (1 : Fin 3) ?_
          show κ.val < o ∨ o + 16 ≤ κ.val
          omega
      · refine View.read_writes_cons_unit_of_not_mem arg11.view G inb p L _ ho (0 : Fin 3) ?_
        show s.val < j.val % 2 ∨ j.val % 2 + 1 ≤ s.val
        omega
    refine (miss _ _ o1 (by omega) (by omega) _ _ _).trans ?_
    refine (miss _ _ o0 (by omega) (by omega) _ _ _).trans ?_
    rfl

/-- What the trips before `n` leave there: the rows so far decoded. -/
theorem trips_read11 (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (v166 : Vec Ideal S32x128 .i8) (j : Fin k0_t2_loop.trips) (arg14 : BitVec 32) (t : Fin k0_t3_loop.trips) (arg15 : BitVec 32) (v220 : BitVec 32)
    (X6 : BufTy.Contents (Elt Ideal) arg6.view.ty) (X10 : BufTy.Contents (Elt Ideal) arg10.view.ty)
    (G : BufTy.Contents (Elt Ideal) arg11.view.ty) (s : Fin 2) (κ : Fin 512) (q : Fin 256) (n : ℕ) (hn : n ≤ k0_t4_loop.trips) :
    arg11.view.read (Elt Ideal) (arg11.view.writes (Elt Ideal) G (pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 v166 j arg14 t arg15 v220 X6 X10 n).1) (ix3 s κ q)
      = if done j t.val 0 (32 * n) s κ q then weight loCode v166 (arg6.view.read (Elt Ideal) X6) (arg10.view.read (Elt Ideal) X10) κ (col j q)
        else arg11.view.read (Elt Ideal) G (ix3 s κ q) := by
  induction n with
  | zero =>
    rw [if_neg (fun h => by obtain ⟨_, ⟨_, h⟩, _⟩ := h; omega)]
    rfl
  | succ n ih =>
    have ih := ih (Nat.le_of_succ_le hn)
    have hs := pb_k0_t4_succ (F := Ideal) Variants.none c none i arg1 harg1 arg2 harg2 arg3 harg3 arg4 harg4 arg5 harg5 arg6 harg6 arg7 harg7 arg8 harg8 arg9 harg9 arg10 harg10 arg11 harg11 arg12 harg12 arg13 harg13 v166 j arg14 t arg15 v220 X6 X10 ⟨n, hn⟩
    rw [show pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 v166 j arg14 t arg15 v220 X6 X10 (n + 1) = _ from hs]
    show arg11.view.read (Elt Ideal) (arg11.view.writes (Elt Ideal) G ((tripL_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 v166 j arg14 t arg15 v220 X6 X10 ⟨n, hn⟩).1 ++ (pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 v166 j arg14 t arg15 v220 X6 X10 n).1)) (ix3 s κ q) = _
    rw [View.writes_append, trip_read11, ih]
    by_cases h1 : done j t.val (32 * n) (32 * n + 32) s κ q
    · rw [if_pos h1, if_pos (by obtain ⟨a, ⟨b, b'⟩, d⟩ := h1; exact ⟨a, ⟨Nat.zero_le _, by omega⟩, d⟩)]
    · rw [if_neg h1]
      by_cases h2 : done j t.val 0 (32 * n) s κ q
      · rw [if_pos h2, if_pos (by obtain ⟨a, ⟨b, b'⟩, d⟩ := h2; exact ⟨a, ⟨b, by omega⟩, d⟩)]
      · rw [if_neg h2, if_neg (fun h => by
          obtain ⟨a, ⟨b, b'⟩, d⟩ := h
          by_cases h3 : κ.val < 32 * n
          · exact h2 ⟨a, ⟨b, h3⟩, d⟩
          · exact h1 ⟨a, ⟨by omega, by omega⟩, d⟩)]

/-- What one trip leaves in the high halves' scratch, read at an index. -/
theorem trip_read12 (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (v166 : Vec Ideal S32x128 .i8) (j : Fin k0_t2_loop.trips) (arg14 : BitVec 32) (t : Fin k0_t3_loop.trips) (arg15 : BitVec 32) (v220 : BitVec 32)
    (X6 : BufTy.Contents (Elt Ideal) arg6.view.ty) (X10 : BufTy.Contents (Elt Ideal) arg10.view.ty) (k : Fin k0_t4_loop.trips)
    (G : BufTy.Contents (Elt Ideal) arg12.view.ty) (s : Fin 2) (κ : Fin 512) (q : Fin 256) :
    arg12.view.read (Elt Ideal) (arg12.view.writes (Elt Ideal) G (tripL_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 v166 j arg14 t arg15 v220 X6 X10 k).2) (ix3 s κ q)
      = if done j t.val (32 * k.val) (32 * k.val + 32) s κ q then weight hiCode v166 (arg6.view.read (Elt Ideal) X6) (arg10.view.read (Elt Ideal) X10) κ (col j q)
        else arg12.view.read (Elt Ideal) G (ix3 s κ q) := by
  have hj := t2_lt j; have ht := t3_lt t; have hk := t4_lt k
  have hs := s.isLt; have hκ := κ.isLt; have hq := q.isLt
  unfold tripL_k0_t4 trip_k0_t4
  dsimp only
  have o1 : k0_off6 j t k 16#32 = ![j.val % 2, 32 * k.val + 16, 128 * t.val] := k0_off6_eq j t k 1
  have o0 : k0_off6 j t k 0#32 = ![j.val % 2, 32 * k.val, 128 * t.val] := k0_off6_eq j t k 0
  have a1 : k0_off5 k 16#32 = ![16 * k.val + 8, 0, 0] := k0_off5_eq k 1
  have a0 : k0_off5 k 0#32 = ![16 * k.val, 0, 0] := k0_off5_eq k 0
  by_cases h : done j t.val (32 * k.val) (32 * k.val + 32) s κ q
  · rw [if_pos h]
    obtain ⟨h0, ⟨h1, h1'⟩, h2, h2'⟩ := h
    have e1 : q.val - 128 * t.val = (256 * j.val + q.val) % 128 := by omega
    have e2 : 8 * j.val + 4 * t.val + (q.val - 128 * t.val) / 32 = (256 * j.val + q.val) / 32 := by omega
    by_cases hr : κ.val < 32 * k.val + 16
    · refine Eq.trans (View.read_writes_cons_unit_of_not_mem arg12.view G _ _ _ (ix3 s κ q) o1 (1 : Fin 3) (Or.inl hr)) ?_
      refine Eq.trans (View.read_writes_cons_unit_of_mem arg12.view G _ _ _ (ix3 s κ q)
        (ix3 (0 : Fin 1) (⟨κ.val - 32 * k.val, by omega⟩ : Fin 16) (⟨q.val - 128 * t.val, by omega⟩ : Fin 128)) o0
        (fun a => by fin_cases a; exacts [by show s.val = j.val % 2 + 0; omega, by show κ.val = 32 * k.val + (κ.val - 32 * k.val); omega, by show q.val = 128 * t.val + (q.val - 128 * t.val); omega])) ?_
      refine (tile_hi0 v166 _ _ _ _ _ (⟨8 * j.val + 4 * t.val + (q.val - 128 * t.val) / 32, by omega⟩ : Fin 128) (fun a => lanes_at j t a _)).trans ?_
      unfold weight
      refine congrArg₂ (· * ·) (congrArg₂ (fun x l => entry v166 (hiCode x) l)
        (readAt_at arg6.view X6 _ (k0_off4_eq j t k) _ (ix2 κ (col j q)) (fun a => by
          fin_cases a
          · show κ.val = 32 * k.val + (κ.val - 32 * k.val); omega
          · show 256 * j.val + q.val = 256 * j.val + 128 * t.val + (q.val - 128 * t.val); omega)) (Fin.ext e1))
        (readAt_at arg10.view X10 _ a0 _ (ix3 (⟨κ.val / 2, by omega⟩ : Fin 256) (⟨κ.val % 2, by omega⟩ : Fin 2) (⟨(col j q).val / 32, by have := (col j q).isLt; omega⟩ : Fin 128)) (fun a => by
          fin_cases a
          · show κ.val / 2 = 16 * k.val + (κ.val - 32 * k.val) / 2; omega
          · show κ.val % 2 = 0 + (κ.val - 32 * k.val) % 2; omega
          · show (256 * j.val + q.val) / 32 = 0 + (8 * j.val + 4 * t.val + (q.val - 128 * t.val) / 32); omega))
    · refine Eq.trans (View.read_writes_cons_unit_of_mem arg12.view G _ _ _ (ix3 s κ q)
        (ix3 (0 : Fin 1) (⟨κ.val - (32 * k.val + 16), by omega⟩ : Fin 16) (⟨q.val - 128 * t.val, by omega⟩ : Fin 128)) o1
        (fun a => by fin_cases a; exacts [by show s.val = j.val % 2 + 0; omega, by show κ.val = 32 * k.val + 16 + (κ.val - (32 * k.val + 16)); omega, by show q.val = 128 * t.val + (q.val - 128 * t.val); omega])) ?_
      refine (tile_hi1 v166 _ _ _ _ _ (⟨8 * j.val + 4 * t.val + (q.val - 128 * t.val) / 32, by omega⟩ : Fin 128) (fun a => lanes_at j t a _)).trans ?_
      unfold weight
      refine congrArg₂ (· * ·) (congrArg₂ (fun x l => entry v166 (hiCode x) l)
        (readAt_at arg6.view X6 _ (k0_off4_eq j t k) _ (ix2 κ (col j q)) (fun a => by
          fin_cases a
          · show κ.val = 32 * k.val + (κ.val - (32 * k.val + 16) + 16); omega
          · show 256 * j.val + q.val = 256 * j.val + 128 * t.val + (q.val - 128 * t.val); omega)) (Fin.ext e1))
        (readAt_at arg10.view X10 _ a1 _ (ix3 (⟨κ.val / 2, by omega⟩ : Fin 256) (⟨κ.val % 2, by omega⟩ : Fin 2) (⟨(col j q).val / 32, by have := (col j q).isLt; omega⟩ : Fin 128)) (fun a => by
          fin_cases a
          · show κ.val / 2 = 16 * k.val + 8 + (κ.val - (32 * k.val + 16)) / 2; omega
          · show κ.val % 2 = 0 + (κ.val - (32 * k.val + 16)) % 2; omega
          · show (256 * j.val + q.val) / 32 = 0 + (8 * j.val + 4 * t.val + (q.val - 128 * t.val) / 32); omega))
  · rw [if_neg h]
    have miss (off : Fin 3 → ℕ) (o : ℕ) (ho : off = ![j.val % 2, o, 128 * t.val]) (hlo : 32 * k.val ≤ o) (hhi : o + 16 ≤ 32 * k.val + 32)
        (inb : ∀ a, off a + S1x16x128.size a ≤ S2x512x256.size a) (p : _) (L : List (View.Piece (Elt Ideal) S2x512x256 .bf16)) :
        arg12.view.read (Elt Ideal) (arg12.view.writes (Elt Ideal) G ((⟨Rect.unit off S1x16x128.size inb, p⟩ : View.Piece (Elt Ideal) S2x512x256 .bf16) :: L)) (ix3 s κ q)
          = arg12.view.read (Elt Ideal) (arg12.view.writes (Elt Ideal) G L) (ix3 s κ q) := by
      by_cases c0 : s.val = j.val % 2
      · by_cases c1 : o ≤ κ.val ∧ κ.val < o + 16
        · refine View.read_writes_cons_unit_of_not_mem arg12.view G inb p L _ ho (2 : Fin 3) ?_
          show q.val < 128 * t.val ∨ 128 * t.val + 128 ≤ q.val
          by_contra hc
          exact h ⟨c0, by omega, by omega⟩
        · refine View.read_writes_cons_unit_of_not_mem arg12.view G inb p L _ ho (1 : Fin 3) ?_
          show κ.val < o ∨ o + 16 ≤ κ.val
          omega
      · refine View.read_writes_cons_unit_of_not_mem arg12.view G inb p L _ ho (0 : Fin 3) ?_
        show s.val < j.val % 2 ∨ j.val % 2 + 1 ≤ s.val
        omega
    refine (miss _ _ o1 (by omega) (by omega) _ _ _).trans ?_
    refine (miss _ _ o0 (by omega) (by omega) _ _ _).trans ?_
    rfl

/-- What the trips before `n` leave there: the rows so far decoded. -/
theorem trips_read12 (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (v166 : Vec Ideal S32x128 .i8) (j : Fin k0_t2_loop.trips) (arg14 : BitVec 32) (t : Fin k0_t3_loop.trips) (arg15 : BitVec 32) (v220 : BitVec 32)
    (X6 : BufTy.Contents (Elt Ideal) arg6.view.ty) (X10 : BufTy.Contents (Elt Ideal) arg10.view.ty)
    (G : BufTy.Contents (Elt Ideal) arg12.view.ty) (s : Fin 2) (κ : Fin 512) (q : Fin 256) (n : ℕ) (hn : n ≤ k0_t4_loop.trips) :
    arg12.view.read (Elt Ideal) (arg12.view.writes (Elt Ideal) G (pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 v166 j arg14 t arg15 v220 X6 X10 n).2) (ix3 s κ q)
      = if done j t.val 0 (32 * n) s κ q then weight hiCode v166 (arg6.view.read (Elt Ideal) X6) (arg10.view.read (Elt Ideal) X10) κ (col j q)
        else arg12.view.read (Elt Ideal) G (ix3 s κ q) := by
  induction n with
  | zero =>
    rw [if_neg (fun h => by obtain ⟨_, ⟨_, h⟩, _⟩ := h; omega)]
    rfl
  | succ n ih =>
    have ih := ih (Nat.le_of_succ_le hn)
    have hs := pb_k0_t4_succ (F := Ideal) Variants.none c none i arg1 harg1 arg2 harg2 arg3 harg3 arg4 harg4 arg5 harg5 arg6 harg6 arg7 harg7 arg8 harg8 arg9 harg9 arg10 harg10 arg11 harg11 arg12 harg12 arg13 harg13 v166 j arg14 t arg15 v220 X6 X10 ⟨n, hn⟩
    rw [show pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 v166 j arg14 t arg15 v220 X6 X10 (n + 1) = _ from hs]
    show arg12.view.read (Elt Ideal) (arg12.view.writes (Elt Ideal) G ((tripL_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 v166 j arg14 t arg15 v220 X6 X10 ⟨n, hn⟩).2 ++ (pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 v166 j arg14 t arg15 v220 X6 X10 n).2)) (ix3 s κ q) = _
    rw [View.writes_append, trip_read12, ih]
    by_cases h1 : done j t.val (32 * n) (32 * n + 32) s κ q
    · rw [if_pos h1, if_pos (by obtain ⟨a, ⟨b, b'⟩, d⟩ := h1; exact ⟨a, ⟨Nat.zero_le _, by omega⟩, d⟩)]
    · rw [if_neg h1]
      by_cases h2 : done j t.val 0 (32 * n) s κ q
      · rw [if_pos h2, if_pos (by obtain ⟨a, ⟨b, b'⟩, d⟩ := h2; exact ⟨a, ⟨b, by omega⟩, d⟩)]
      · rw [if_neg h2, if_neg (fun h => by
          obtain ⟨a, ⟨b, b'⟩, d⟩ := h
          by_cases h3 : κ.val < 32 * n
          · exact h2 ⟨a, ⟨b, h3⟩, d⟩
          · exact h1 ⟨a, ⟨by omega, by omega⟩, d⟩)]

end Cert.KernelIdeal.Val

end
-- ==== Proof.KernelIdealBlocks.lean ====
/- The accumulator after any number of blocks of 256 weight columns, read at an index: the columns gone through have the product of
   the scaled codes with the decoded weights added. -/
module

public import proofs.«01_k».proof.Proof.KernelIdealSteps
public import proofs.«01_k».proof.Proof.KernelIdealTile

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The number of trips of loop 4. -/
theorem trips4 : k0_t4_loop.trips = 16 := by decide
/-- The number of trips of loop 3. -/
theorem trips3 : k0_t3_loop.trips = 2 := by decide
/-- The number of trips of loop 2. -/
theorem trips2 : k0_t2_loop.trips = 10 := by decide

/-- One block's product added to the low half's accumulator, at an index. -/
theorem product_lo (x : Vec Ideal S256x512 .bf16) (g : Vec Ideal S1x256x256 .f32) (w : Vec Ideal S1x512x256 .bf16) (r q : Fin 256) :
    k0_pay60 x g w (ix3 (0 : Fin 1) r q) = g (ix3 (0 : Fin 1) r q) + ∑ k : Fin 512, x (ix2 r k) * w (ix3 (0 : Fin 1) k q) := by
  unfold k0_pay60
  pointwise

/-- One block's product added to the high half's accumulator, at an index. -/
theorem product_hi (x : Vec Ideal S256x512 .bf16) (g : Vec Ideal S1x256x256 .f32) (w : Vec Ideal S1x512x256 .bf16) (r q : Fin 256) :
    k0_pay61 x g w (ix3 (0 : Fin 1) r q) = g (ix3 (0 : Fin 1) r q) + ∑ k : Fin 512, x (ix2 r k) * w (ix3 (0 : Fin 1) k q) := by
  unfold k0_pay61
  pointwise

/-- The decoding of one half of a byte: the low half for the first accumulator, the high half for the second. -/
def codeOf (h : Fin 2) : BitVec 8 → Fin 16 := if h.val = 0 then loCode else hiCode

/-- The low halves' table before trip `n` of the loop over half blocks: the lanes gone through hold the weights of the block. -/
theorem st3_lo (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (v166 : Vec Ideal S32x128 .i8) (j : Fin k0_t2_loop.trips) (arg14 : BitVec 32) (X6 : BufTy.Contents (Elt Ideal) arg6.view.ty) (X10 : BufTy.Contents (Elt Ideal) arg10.view.ty) (G11 : BufTy.Contents (Elt Ideal) arg11.view.ty) (G12 : BufTy.Contents (Elt Ideal) arg12.view.ty)
    (s : Fin 2) (κ : Fin 512) (q : Fin 256) (n : ℕ) (hn : n ≤ k0_t3_loop.trips) :
    arg11.view.read (Elt Ideal) (st3 (F := Ideal) c i arg1 harg1 arg2 harg2 arg3 harg3 arg4 harg4 arg5 harg5 arg6 harg6 arg7 harg7 arg8 harg8 arg9 harg9 arg10 harg10 arg11 harg11 arg12 harg12 arg13 harg13 v166 j arg14 X6 X10 G11 G12 n).1 (ix3 s κ q)
      = if s.val = j.val % 2 ∧ q.val < 128 * n then weight loCode v166 (arg6.view.read (Elt Ideal) X6) (arg10.view.read (Elt Ideal) X10) κ (col j q)
        else arg11.view.read (Elt Ideal) G11 (ix3 s κ q) := by
  induction n with
  | zero => rw [if_neg (fun h => by omega)]; rfl
  | succ n ih =>
    have ih := ih (Nat.le_of_succ_le hn)
    have hs := st3_succ (F := Ideal) c i arg1 harg1 arg2 harg2 arg3 harg3 arg4 harg4 arg5 harg5 arg6 harg6 arg7 harg7 arg8 harg8 arg9 harg9 arg10 harg10 arg11 harg11 arg12 harg12 arg13 harg13 v166 j arg14 X6 X10 G11 G12 ⟨n, hn⟩
    rw [show st3 (F := Ideal) c i arg1 harg1 arg2 harg2 arg3 harg3 arg4 harg4 arg5 harg5 arg6 harg6 arg7 harg7 arg8 harg8 arg9 harg9 arg10 harg10 arg11 harg11 arg12 harg12 arg13 harg13 v166 j arg14 X6 X10 G11 G12 (n + 1) = _ from hs]
    have hκ := κ.isLt
    have ht := trips4
    unfold pieces4
    refine (trips_read11 c i arg1 harg1 arg2 harg2 arg3 harg3 arg4 harg4 arg5 harg5 arg6 harg6 arg7 harg7 arg8 harg8 arg9 harg9 arg10 harg10 arg11 harg11 arg12 harg12 arg13 harg13 v166 j arg14 ⟨n, hn⟩ _ _ X6 X10 _ s κ q k0_t4_loop.trips le_rfl).trans ?_
    by_cases h1 : done j n 0 (32 * k0_t4_loop.trips) s κ q
    · rw [if_pos h1, if_pos (by obtain ⟨a, _, d⟩ := h1; exact ⟨a, by omega⟩)]
    · rw [if_neg h1]
      refine ih.trans ?_
      by_cases h2 : s.val = j.val % 2 ∧ q.val < 128 * n
      · rw [if_pos h2, if_pos ⟨h2.1, by omega⟩]
      · rw [if_neg h2, if_neg (fun h => by
          by_cases h3 : q.val < 128 * n
          · exact h2 ⟨h.1, h3⟩
          · exact h1 ⟨h.1, ⟨Nat.zero_le _, by omega⟩, by omega, by omega⟩)]

/-- The high halves' table before trip `n` of the loop over half blocks: the lanes gone through hold the weights of the block. -/
theorem st3_hi (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (v166 : Vec Ideal S32x128 .i8) (j : Fin k0_t2_loop.trips) (arg14 : BitVec 32) (X6 : BufTy.Contents (Elt Ideal) arg6.view.ty) (X10 : BufTy.Contents (Elt Ideal) arg10.view.ty) (G11 : BufTy.Contents (Elt Ideal) arg11.view.ty) (G12 : BufTy.Contents (Elt Ideal) arg12.view.ty)
    (s : Fin 2) (κ : Fin 512) (q : Fin 256) (n : ℕ) (hn : n ≤ k0_t3_loop.trips) :
    arg12.view.read (Elt Ideal) (st3 (F := Ideal) c i arg1 harg1 arg2 harg2 arg3 harg3 arg4 harg4 arg5 harg5 arg6 harg6 arg7 harg7 arg8 harg8 arg9 harg9 arg10 harg10 arg11 harg11 arg12 harg12 arg13 harg13 v166 j arg14 X6 X10 G11 G12 n).2 (ix3 s κ q)
      = if s.val = j.val % 2 ∧ q.val < 128 * n then weight hiCode v166 (arg6.view.read (Elt Ideal) X6) (arg10.view.read (Elt Ideal) X10) κ (col j q)
        else arg12.view.read (Elt Ideal) G12 (ix3 s κ q) := by
  induction n with
  | zero => rw [if_neg (fun h => by omega)]; rfl
  | succ n ih =>
    have ih := ih (Nat.le_of_succ_le hn)
    have hs := st3_succ (F := Ideal) c i arg1 harg1 arg2 harg2 arg3 harg3 arg4 harg4 arg5 harg5 arg6 harg6 arg7 harg7 arg8 harg8 arg9 harg9 arg10 harg10 arg11 harg11 arg12 harg12 arg13 harg13 v166 j arg14 X6 X10 G11 G12 ⟨n, hn⟩
    rw [show st3 (F := Ideal) c i arg1 harg1 arg2 harg2 arg3 harg3 arg4 harg4 arg5 harg5 arg6 harg6 arg7 harg7 arg8 harg8 arg9 harg9 arg10 harg10 arg11 harg11 arg12 harg12 arg13 harg13 v166 j arg14 X6 X10 G11 G12 (n + 1) = _ from hs]
    have hκ := κ.isLt
    have ht := trips4
    unfold pieces4
    refine (trips_read12 c i arg1 harg1 arg2 harg2 arg3 harg3 arg4 harg4 arg5 harg5 arg6 harg6 arg7 harg7 arg8 harg8 arg9 harg9 arg10 harg10 arg11 harg11 arg12 harg12 arg13 harg13 v166 j arg14 ⟨n, hn⟩ _ _ X6 X10 _ s κ q k0_t4_loop.trips le_rfl).trans ?_
    by_cases h1 : done j n 0 (32 * k0_t4_loop.trips) s κ q
    · rw [if_pos h1, if_pos (by obtain ⟨a, _, d⟩ := h1; exact ⟨a, by omega⟩)]
    · rw [if_neg h1]
      refine ih.trans ?_
      by_cases h2 : s.val = j.val % 2 ∧ q.val < 128 * n
      · rw [if_pos h2, if_pos ⟨h2.1, by omega⟩]
      · rw [if_neg h2, if_neg (fun h => by
          by_cases h3 : q.val < 128 * n
          · exact h2 ⟨h.1, h3⟩
          · exact h1 ⟨h.1, ⟨Nat.zero_le _, by omega⟩, by omega, by omega⟩)]

/-- The accumulator after a block of 256 columns, read at an index. -/
theorem pieces2_read (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (X9 : BufTy.Contents (Elt Ideal) arg9.view.ty) (j : Fin k0_t2_loop.trips) (W11 : BufTy.Contents (Elt Ideal) arg11.view.ty) (W12 : BufTy.Contents (Elt Ideal) arg12.view.ty) (G13 : BufTy.Contents (Elt Ideal) arg13.view.ty)
    (W : Fin 2 → Fin 512 → Fin 2560 → EReal)
    (hlo : ∀ (k : Fin 512) (q : Fin 256), arg11.view.read (Elt Ideal) W11 (ix3 (⟨j.val % 2, by omega⟩ : Fin 2) k q) = W 0 k (col j q))
    (hhi : ∀ (k : Fin 512) (q : Fin 256), arg12.view.read (Elt Ideal) W12 (ix3 (⟨j.val % 2, by omega⟩ : Fin 2) k q) = W 1 k (col j q))
    (h : Fin 2) (r : Fin 256) (p : Fin 2560) :
    arg13.view.read (Elt Ideal) (arg13.view.writes (Elt Ideal) G13 (pieces2 (F := Ideal) c i arg1 harg1 arg2 harg2 arg3 harg3 arg4 harg4 arg5 harg5 arg6 harg6 arg7 harg7 arg8 harg8 arg9 harg9 arg10 harg10 arg11 harg11 arg12 harg12 arg13 harg13 X9 j W11 W12 G13)) (ix3 h r p)
      = if 256 * j.val ≤ p.val ∧ p.val < 256 * j.val + 256 then
          arg13.view.read (Elt Ideal) G13 (ix3 h r p) + ∑ k : Fin 512, arg9.view.read (Elt Ideal) X9 (ix2 r k) * W h k p
        else arg13.view.read (Elt Ideal) G13 (ix3 h r p) := by
  have hj := t2_lt j
  have hh := h.isLt
  unfold pieces2
  have o7 := k0_off7_eq j
  have o8 := k0_off8_eq j
  have o9 := k0_off9_eq j
  by_cases hp : 256 * j.val ≤ p.val ∧ p.val < 256 * j.val + 256
  · rw [if_pos hp]
    obtain ⟨q, rfl⟩ : ∃ q : Fin 256, p = col j q := ⟨⟨p.val - 256 * j.val, by omega⟩, Fin.ext (by show p.val = 256 * j.val + (p.val - 256 * j.val); omega)⟩
    have h9 (k : Fin 512) : View.readAt (Elt Ideal) arg9.view (Rect.unit (s := S256x512) ![0, 0] S256x512.size inb_S256x512_S256x512_0_0).toLoadRect X9 (ix2 r k)
        = arg9.view.read (Elt Ideal) X9 (ix2 r k) :=
      readAt_at arg9.view X9 _ rfl _ _ (fun a => by fin_cases a <;> exact (Nat.zero_add _).symm)
    by_cases h0 : h = 0
    · subst h0
      refine Eq.trans (View.read_writes_cons_unit_of_not_mem arg13.view G13 _ _ _ (ix3 0 r (col j q)) o9 (0 : Fin 3) (Or.inl Nat.zero_lt_one)) ?_
      refine Eq.trans (View.read_writes_cons_unit_of_mem arg13.view G13 _ _ _ (ix3 0 r (col j q)) (ix3 (0 : Fin 1) r q) o7
        (fun a => by fin_cases a; exacts [rfl, (Nat.zero_add _).symm, rfl])) ?_
      refine (product_lo _ _ _ r q).trans ?_
      refine congrArg₂ (· + ·) (readAt_at arg13.view G13 _ o7 _ (ix3 0 r (col j q)) (fun a => by fin_cases a; exacts [rfl, (Nat.zero_add _).symm, rfl])) ?_
      refine Finset.sum_congr rfl fun k _ => congrArg₂ (· * ·) (h9 k) ?_
      refine (readAt_at arg11.view W11 _ o8 _ (ix3 (⟨j.val % 2, by omega⟩ : Fin 2) k q) (fun a => by fin_cases a; exacts [rfl, (Nat.zero_add _).symm, (Nat.zero_add _).symm])).trans ?_
      exact hlo k q
    · obtain rfl : h = 1 := Fin.ext (by have : h.val ≠ 0 := fun e => h0 (Fin.ext e); show h.val = 1; omega)
      refine Eq.trans (View.read_writes_cons_unit_of_mem arg13.view G13 _ _ _ (ix3 1 r (col j q)) (ix3 (0 : Fin 1) r q) o9
        (fun a => by fin_cases a; exacts [rfl, (Nat.zero_add _).symm, rfl])) ?_
      refine (product_hi _ _ _ r q).trans ?_
      refine congrArg₂ (· + ·) (readAt_at arg13.view G13 _ o9 _ (ix3 1 r (col j q)) (fun a => by fin_cases a; exacts [rfl, (Nat.zero_add _).symm, rfl])) ?_
      refine Finset.sum_congr rfl fun k _ => congrArg₂ (· * ·) (h9 k) ?_
      refine (readAt_at arg12.view W12 _ o8 _ (ix3 (⟨j.val % 2, by omega⟩ : Fin 2) k q) (fun a => by fin_cases a; exacts [rfl, (Nat.zero_add _).symm, (Nat.zero_add _).symm])).trans ?_
      exact hhi k q
  · rw [if_neg hp]
    have hp' : p.val < 256 * j.val ∨ 256 * j.val + 256 ≤ p.val := by omega
    refine Eq.trans (View.read_writes_cons_unit_of_not_mem arg13.view G13 _ _ _ (ix3 h r p) o9 (2 : Fin 3) hp') ?_
    refine Eq.trans (View.read_writes_cons_unit_of_not_mem arg13.view G13 _ _ _ (ix3 h r p) o7 (2 : Fin 3) hp') ?_
    rfl

/-- The accumulator before trip `n` of the loop over blocks: the columns gone through have their product added. -/
theorem st2_acc (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (v166 : Vec Ideal S32x128 .i8) (X6 : BufTy.Contents (Elt Ideal) arg6.view.ty) (X9 : BufTy.Contents (Elt Ideal) arg9.view.ty) (X10 : BufTy.Contents (Elt Ideal) arg10.view.ty) (G11 : BufTy.Contents (Elt Ideal) arg11.view.ty) (G12 : BufTy.Contents (Elt Ideal) arg12.view.ty) (G13 : BufTy.Contents (Elt Ideal) arg13.view.ty) (h : Fin 2) (r : Fin 256) (p : Fin 2560) (n : ℕ) (hn : n ≤ k0_t2_loop.trips) :
    arg13.view.read (Elt Ideal) (st2 (F := Ideal) c i arg1 harg1 arg2 harg2 arg3 harg3 arg4 harg4 arg5 harg5 arg6 harg6 arg7 harg7 arg8 harg8 arg9 harg9 arg10 harg10 arg11 harg11 arg12 harg12 arg13 harg13 v166 X6 X9 X10 G11 G12 G13 n).2.2 (ix3 h r p)
      = if p.val < 256 * n then
          arg13.view.read (Elt Ideal) G13 (ix3 h r p)
            + ∑ k : Fin 512, arg9.view.read (Elt Ideal) X9 (ix2 r k) * weight (codeOf h) v166 (arg6.view.read (Elt Ideal) X6) (arg10.view.read (Elt Ideal) X10) k p
        else arg13.view.read (Elt Ideal) G13 (ix3 h r p) := by
  induction n with
  | zero => rw [if_neg (fun h => by omega)]; rfl
  | succ n ih =>
    have ih := ih (Nat.le_of_succ_le hn)
    have hs := st2_succ (F := Ideal) c i arg1 harg1 arg2 harg2 arg3 harg3 arg4 harg4 arg5 harg5 arg6 harg6 arg7 harg7 arg8 harg8 arg9 harg9 arg10 harg10 arg11 harg11 arg12 harg12 arg13 harg13 v166 X6 X9 X10 G11 G12 G13 ⟨n, hn⟩
    rw [show st2 (F := Ideal) c i arg1 harg1 arg2 harg2 arg3 harg3 arg4 harg4 arg5 harg5 arg6 harg6 arg7 harg7 arg8 harg8 arg9 harg9 arg10 harg10 arg11 harg11 arg12 harg12 arg13 harg13 v166 X6 X9 X10 G11 G12 G13 (n + 1) = _ from hs]
    dsimp only
    have t3 := trips3
    refine (pieces2_read c i arg1 harg1 arg2 harg2 arg3 harg3 arg4 harg4 arg5 harg5 arg6 harg6 arg7 harg7 arg8 harg8 arg9 harg9 arg10 harg10 arg11 harg11 arg12 harg12 arg13 harg13 X9 ⟨n, hn⟩ _ _ _ (fun h k p => weight (codeOf h) v166 (arg6.view.read (Elt Ideal) X6) (arg10.view.read (Elt Ideal) X10) k p)
      (fun k q => ?_) (fun k q => ?_) h r p).trans ?_
    · exact (st3_lo c i arg1 harg1 arg2 harg2 arg3 harg3 arg4 harg4 arg5 harg5 arg6 harg6 arg7 harg7 arg8 harg8 arg9 harg9 arg10 harg10 arg11 harg11 arg12 harg12 arg13 harg13 v166 ⟨n, hn⟩ _ X6 X10 _ _ _ k q _ le_rfl).trans (if_pos ⟨rfl, by have := q.isLt; omega⟩)
    · exact (st3_hi c i arg1 harg1 arg2 harg2 arg3 harg3 arg4 harg4 arg5 harg5 arg6 harg6 arg7 harg7 arg8 harg8 arg9 harg9 arg10 harg10 arg11 harg11 arg12 harg12 arg13 harg13 v166 ⟨n, hn⟩ _ X6 X10 _ _ _ k q _ le_rfl).trans (if_pos ⟨rfl, by have := q.isLt; omega⟩)
    · rw [ih]
      by_cases h1 : p.val < 256 * n
      · rw [if_neg (fun h => by have := h.1; dsimp only at this; omega), if_pos h1, if_pos (by omega)]
      · by_cases h2 : p.val < 256 * (n + 1)
        · rw [if_pos ⟨by dsimp only; omega, by dsimp only; omega⟩, if_neg h1, if_pos h2]
        · rw [if_neg (fun h => by have := h.2; dsimp only at this; omega), if_neg h1, if_neg h2]

end Cert.KernelIdeal.Val

end
-- ==== Proof.KernelIdealCodes.lean ====
module

public import proofs.«01_k».proof.Proof.KernelIdealDecode

@[expose] public section

/-! The scaled codes of one grid point, read at an index: a code times the scale of its block of 128 columns. -/

set_option maxRecDepth 16384

noncomputable section

namespace Cert.KernelIdeal.Val

open Idealize.ShloMosaic Idealize.ShloMosaic.TcCoe Idealize.SL.Sem
open Cert.KernelIdeal Cert.KernelIdeal.Gen

/-- The lane of a block's scale: block `b` of grid point `t` has lane `(4 t + b) % 128`. -/
theorem lane_of_block : ∀ (b : Fin 4) (t : Fin 54),
    Scalar.select
        (Scalar.andi
          (Scalar.xori
            (Scalar.cmpi CmpIPredicate.slt
              (Scalar.remsi (Scalar.addi (Scalar.muli (BitVec.ofNat 32 t.val) 4#32) (BitVec.ofNat 32 b.val))
                (Scalar.select (Scalar.cmpi CmpIPredicate.eq 128#32 0#32) 1#32 128#32))
              0#32)
            (Scalar.cmpi CmpIPredicate.slt (Scalar.select (Scalar.cmpi CmpIPredicate.eq 128#32 0#32) 1#32 128#32) 0#32))
          (Scalar.cmpi CmpIPredicate.ne
            (Scalar.remsi (Scalar.addi (Scalar.muli (BitVec.ofNat 32 t.val) 4#32) (BitVec.ofNat 32 b.val))
              (Scalar.select (Scalar.cmpi CmpIPredicate.eq 128#32 0#32) 1#32 128#32))
            0#32))
        (Scalar.addi
          (Scalar.remsi (Scalar.addi (Scalar.muli (BitVec.ofNat 32 t.val) 4#32) (BitVec.ofNat 32 b.val))
            (Scalar.select (Scalar.cmpi CmpIPredicate.eq 128#32 0#32) 1#32 128#32))
          (Scalar.select (Scalar.cmpi CmpIPredicate.eq 128#32 0#32) 1#32 128#32))
        (Scalar.remsi (Scalar.addi (Scalar.muli (BitVec.ofNat 32 t.val) 4#32) (BitVec.ofNat 32 b.val))
          (Scalar.select (Scalar.cmpi CmpIPredicate.eq 128#32 0#32) 1#32 128#32))
      = BitVec.ofNat 32 ((4 * t.val + b.val) % 128) := by
  decide +kernel

/-- Which half of the scales a block is in. -/
theorem half_of_block : ∀ (b : Fin 4) (t : Fin 54),
    Scalar.cmpi CmpIPredicate.slt (Scalar.addi (Scalar.muli (BitVec.ofNat 32 t.val) 4#32) (BitVec.ofNat 32 b.val)) 128#32
      = if 4 * t.val + b.val < 128 then 1#1 else 0#1 := by
  decide +kernel

/-- The scale of a row and a block: the column is in the first half of the scales or in the second. -/
theorem scale_of_halves (v10 : Vec Ideal S256x256 .f32) (r : Fin 256) (m : ℕ) (hm : m < 256) (x : BitVec 1) (hx : x = if m < 128 then 1#1 else 0#1) (a : EReal)
    (ha : a = Scalar.select x (v10 (ix2 r (⟨m % 128, by omega⟩ : Fin 256))) (v10 (ix2 r (⟨128 + m % 128, by omega⟩ : Fin 256)))) :
    a = v10 (ix2 r (⟨m, hm⟩ : Fin 256)) := by
  subst ha
  by_cases h : m < 128
  · rw [hx, if_pos h]
    exact congrArg (fun q : Fin 256 => v10 (ix2 r q)) (Fin.ext (by show m % 128 = m; omega))
  · rw [hx, if_neg h]
    exact congrArg (fun q : Fin 256 => v10 (ix2 r q)) (Fin.ext (by show 128 + m % 128 = m; omega))

/-- Every lane of block 0 looks its scale up at one place. -/
theorem lane0 (i : grid0.Coords) (r : Fin 256) (l : Fin 128) : k0_pay38 i (ix2 r l) = BitVec.ofNat 32 ((4 * (i 0).val + 0) % 128) := by
  pointwise [k0_pay38]
  split <;> exact lane_of_block 0 ⟨(i 0).val, (i 0).isLt⟩

/-- The scales block 0 looks up in. -/
theorem pick0 (i : grid0.Coords) (v10 : Vec Ideal S256x256 .f32) (r : Fin 256) (l : Fin 128) :
    k0_pay39 i v10 (ix2 r l) = Scalar.select (Scalar.cmpi CmpIPredicate.slt (Scalar.addi (Scalar.muli (BitVec.ofNat 32 (i 0).val) 4#32) 0#32) 128#32)
      (v10 (ix2 r (⟨l.val, by omega⟩ : Fin 256))) (v10 (ix2 r (⟨128 + l.val, by omega⟩ : Fin 256))) := by
  pointwise [k0_pay39, k0_pay36, k0_pay37, k0_pay35]
  have hr (q : Fin 256) (ρ : Fin 256) (h : ρ.val = r.val) : v10 (ix2 ρ q) = v10 (ix2 r q) := by rw [Fin.ext h]
  split
  · rw [hr _ (⟨2 * (r.val / 2), by omega⟩ : Fin 256) (by show 2 * (r.val / 2) = r.val; omega), hr _ (⟨2 * (r.val / 2), by omega⟩ : Fin 256) (by show 2 * (r.val / 2) = r.val; omega)]
  · rw [hr _ (⟨2 * (r.val / 2) + 1, by omega⟩ : Fin 256) (by show 2 * (r.val / 2) + 1 = r.val; omega), hr _ (⟨2 * (r.val / 2) + 1, by omega⟩ : Fin 256) (by show 2 * (r.val / 2) + 1 = r.val; omega)]

/-- The scaled codes of block 0. -/
theorem scaled0 (i : grid0.Coords) (v10 : Vec Ideal S256x256 .f32) (x : Vec Ideal S256x128 .fp8e4m3) (r : Fin 256) (l : Fin 128) :
    k0_pay40 (k0_pay38 i) (k0_pay39 i v10) x (ix2 r l) = x (ix2 r l) * v10 (ix2 r (⟨4 * (i 0).val + 0, by have := (i 0).isLt; have : (i 0).val < 54 := this; omega⟩ : Fin 256)) := by
  have ht : (i 0).val < 54 := (i 0).isLt
  have hl := lane0 i r l
  have hp := pick0 i v10
  generalize hv31 : k0_pay38 i = v31 at hl ⊢
  generalize k0_pay39 i v10 = v33 at hp ⊢
  have e : k0_pay40 v31 v33 x (ix2 r l) = x (ix2 r l) * v33 (ix2 r (⟨(4 * (i 0).val + 0) % 128, by omega⟩ : Fin 128)) := by
    unfold k0_pay40
    simp only [interleaveRows_rowsOfParity, hv31]
    pointwise [dynamicGather, hl]
    refine congrArg (fun z => x (ix2 r l) * v33 z) (funext fun a => Fin.ext ?_)
    fin_cases a
    · rfl
    · exact wrap_lane ⟨(4 * (i 0).val + 0) % 128, by omega⟩
  rw [e]
  refine congrArg (x (ix2 r l) * ·) (scale_of_halves v10 r _ _ _ (half_of_block 0 ⟨(i 0).val, ht⟩) _ (hp r _))

/-- Every lane of block 1 looks its scale up at one place. -/
theorem lane1 (i : grid0.Coords) (r : Fin 256) (l : Fin 128) : k0_pay41 (BitVec.ofNat 32 (i 0).val) (ix2 r l) = BitVec.ofNat 32 ((4 * (i 0).val + 1) % 128) := by
  pointwise [k0_pay41]
  split <;> exact lane_of_block 1 ⟨(i 0).val, (i 0).isLt⟩

/-- The scales block 1 looks up in. -/
theorem pick1 (i : grid0.Coords) (v10 : Vec Ideal S256x256 .f32) (r : Fin 256) (l : Fin 128) :
    k0_pay42 (BitVec.ofNat 32 (i 0).val) (k0_pay36 v10) (k0_pay37 v10) (ix2 r l) = Scalar.select (Scalar.cmpi CmpIPredicate.slt (Scalar.addi (Scalar.muli (BitVec.ofNat 32 (i 0).val) 4#32) 1#32) 128#32)
      (v10 (ix2 r (⟨l.val, by omega⟩ : Fin 256))) (v10 (ix2 r (⟨128 + l.val, by omega⟩ : Fin 256))) := by
  pointwise [k0_pay42, k0_pay36, k0_pay37, k0_pay35]
  have hr (q : Fin 256) (ρ : Fin 256) (h : ρ.val = r.val) : v10 (ix2 ρ q) = v10 (ix2 r q) := by rw [Fin.ext h]
  split
  · rw [hr _ (⟨2 * (r.val / 2), by omega⟩ : Fin 256) (by show 2 * (r.val / 2) = r.val; omega), hr _ (⟨2 * (r.val / 2), by omega⟩ : Fin 256) (by show 2 * (r.val / 2) = r.val; omega)]
  · rw [hr _ (⟨2 * (r.val / 2) + 1, by omega⟩ : Fin 256) (by show 2 * (r.val / 2) + 1 = r.val; omega), hr _ (⟨2 * (r.val / 2) + 1, by omega⟩ : Fin 256) (by show 2 * (r.val / 2) + 1 = r.val; omega)]

/-- The scaled codes of block 1. -/
theorem scaled1 (i : grid0.Coords) (v10 : Vec Ideal S256x256 .f32) (x : Vec Ideal S256x128 .fp8e4m3) (r : Fin 256) (l : Fin 128) :
    k0_pay44 (k0_pay41 (BitVec.ofNat 32 (i 0).val)) (k0_pay42 (BitVec.ofNat 32 (i 0).val) (k0_pay36 v10) (k0_pay37 v10)) k0_pay43 x (ix2 r l) = x (ix2 r l) * v10 (ix2 r (⟨4 * (i 0).val + 1, by have := (i 0).isLt; have : (i 0).val < 54 := this; omega⟩ : Fin 256)) := by
  have ht : (i 0).val < 54 := (i 0).isLt
  have hl := lane1 i r l
  have hp := pick1 i v10
  generalize hv31 : k0_pay41 (BitVec.ofNat 32 (i 0).val) = v31 at hl ⊢
  generalize k0_pay42 (BitVec.ofNat 32 (i 0).val) (k0_pay36 v10) (k0_pay37 v10) = v33 at hp ⊢
  have e : k0_pay44 v31 v33 k0_pay43 x (ix2 r l) = x (ix2 r l) * v33 (ix2 r (⟨(4 * (i 0).val + 1) % 128, by omega⟩ : Fin 128)) := by
    unfold k0_pay44 k0_pay43
    simp only [interleaveRows_rowsOfParity, hv31]
    pointwise [dynamicGather, hl]
    refine congrArg (fun z => x (ix2 r l) * v33 z) (funext fun a => Fin.ext ?_)
    fin_cases a
    · rfl
    · exact wrap_lane ⟨(4 * (i 0).val + 1) % 128, by omega⟩
  rw [e]
  refine congrArg (x (ix2 r l) * ·) (scale_of_halves v10 r _ _ _ (half_of_block 1 ⟨(i 0).val, ht⟩) _ (hp r _))

/-- Every lane of block 2 looks its scale up at one place. -/
theorem lane2 (i : grid0.Coords) (r : Fin 256) (l : Fin 128) : k0_pay45 (BitVec.ofNat 32 (i 0).val) (ix2 r l) = BitVec.ofNat 32 ((4 * (i 0).val + 2) % 128) := by
  pointwise [k0_pay45]
  split <;> exact lane_of_block 2 ⟨(i 0).val, (i 0).isLt⟩

/-- The scales block 2 looks up in. -/
theorem pick2 (i : grid0.Coords) (v10 : Vec Ideal S256x256 .f32) (r : Fin 256) (l : Fin 128) :
    k0_pay46 (BitVec.ofNat 32 (i 0).val) (k0_pay36 v10) (k0_pay37 v10) (ix2 r l) = Scalar.select (Scalar.cmpi CmpIPredicate.slt (Scalar.addi (Scalar.muli (BitVec.ofNat 32 (i 0).val) 4#32) 2#32) 128#32)
      (v10 (ix2 r (⟨l.val, by omega⟩ : Fin 256))) (v10 (ix2 r (⟨128 + l.val, by omega⟩ : Fin 256))) := by
  pointwise [k0_pay46, k0_pay36, k0_pay37, k0_pay35]
  have hr (q : Fin 256) (ρ : Fin 256) (h : ρ.val = r.val) : v10 (ix2 ρ q) = v10 (ix2 r q) := by rw [Fin.ext h]
  split
  · rw [hr _ (⟨2 * (r.val / 2), by omega⟩ : Fin 256) (by show 2 * (r.val / 2) = r.val; omega), hr _ (⟨2 * (r.val / 2), by omega⟩ : Fin 256) (by show 2 * (r.val / 2) = r.val; omega)]
  · rw [hr _ (⟨2 * (r.val / 2) + 1, by omega⟩ : Fin 256) (by show 2 * (r.val / 2) + 1 = r.val; omega), hr _ (⟨2 * (r.val / 2) + 1, by omega⟩ : Fin 256) (by show 2 * (r.val / 2) + 1 = r.val; omega)]

/-- The scaled codes of block 2. -/
theorem scaled2 (i : grid0.Coords) (v10 : Vec Ideal S256x256 .f32) (x : Vec Ideal S256x128 .fp8e4m3) (r : Fin 256) (l : Fin 128) :
    k0_pay48 (k0_pay45 (BitVec.ofNat 32 (i 0).val)) (k0_pay46 (BitVec.ofNat 32 (i 0).val) (k0_pay36 v10) (k0_pay37 v10)) (k0_pay47 (BitVec.ofNat 32 (i 0).val)) 128#32 x (ix2 r l) = x (ix2 r l) * v10 (ix2 r (⟨4 * (i 0).val + 2, by have := (i 0).isLt; have : (i 0).val < 54 := this; omega⟩ : Fin 256)) := by
  have ht : (i 0).val < 54 := (i 0).isLt
  have hl := lane2 i r l
  have hp := pick2 i v10
  generalize hv31 : k0_pay45 (BitVec.ofNat 32 (i 0).val) = v31 at hl ⊢
  generalize k0_pay46 (BitVec.ofNat 32 (i 0).val) (k0_pay36 v10) (k0_pay37 v10) = v33 at hp ⊢
  have e : k0_pay48 v31 v33 (k0_pay47 (BitVec.ofNat 32 (i 0).val)) 128#32 x (ix2 r l) = x (ix2 r l) * v33 (ix2 r (⟨(4 * (i 0).val + 2) % 128, by omega⟩ : Fin 128)) := by
    unfold k0_pay48 k0_pay47
    simp only [interleaveRows_rowsOfParity, hv31]
    pointwise [dynamicGather, hl]
    refine congrArg (fun z => x (ix2 r l) * v33 z) (funext fun a => Fin.ext ?_)
    fin_cases a
    · rfl
    · exact wrap_lane ⟨(4 * (i 0).val + 2) % 128, by omega⟩
  rw [e]
  refine congrArg (x (ix2 r l) * ·) (scale_of_halves v10 r _ _ _ (half_of_block 2 ⟨(i 0).val, ht⟩) _ (hp r _))

/-- Every lane of block 3 looks its scale up at one place. -/
theorem lane3 (i : grid0.Coords) (r : Fin 256) (l : Fin 128) : k0_pay49 (BitVec.ofNat 32 (i 0).val) (ix2 r l) = BitVec.ofNat 32 ((4 * (i 0).val + 3) % 128) := by
  pointwise [k0_pay49]
  split <;> exact lane_of_block 3 ⟨(i 0).val, (i 0).isLt⟩

/-- The scales block 3 looks up in. -/
theorem pick3 (i : grid0.Coords) (v10 : Vec Ideal S256x256 .f32) (r : Fin 256) (l : Fin 128) :
    k0_pay50 (BitVec.ofNat 32 (i 0).val) (k0_pay36 v10) (k0_pay37 v10) (ix2 r l) = Scalar.select (Scalar.cmpi CmpIPredicate.slt (Scalar.addi (Scalar.muli (BitVec.ofNat 32 (i 0).val) 4#32) 3#32) 128#32)
      (v10 (ix2 r (⟨l.val, by omega⟩ : Fin 256))) (v10 (ix2 r (⟨128 + l.val, by omega⟩ : Fin 256))) := by
  pointwise [k0_pay50, k0_pay36, k0_pay37, k0_pay35]
  have hr (q : Fin 256) (ρ : Fin 256) (h : ρ.val = r.val) : v10 (ix2 ρ q) = v10 (ix2 r q) := by rw [Fin.ext h]
  split
  · rw [hr _ (⟨2 * (r.val / 2), by omega⟩ : Fin 256) (by show 2 * (r.val / 2) = r.val; omega), hr _ (⟨2 * (r.val / 2), by omega⟩ : Fin 256) (by show 2 * (r.val / 2) = r.val; omega)]
  · rw [hr _ (⟨2 * (r.val / 2) + 1, by omega⟩ : Fin 256) (by show 2 * (r.val / 2) + 1 = r.val; omega), hr _ (⟨2 * (r.val / 2) + 1, by omega⟩ : Fin 256) (by show 2 * (r.val / 2) + 1 = r.val; omega)]

/-- The scaled codes of block 3. -/
theorem scaled3 (i : grid0.Coords) (v10 : Vec Ideal S256x256 .f32) (x : Vec Ideal S256x128 .fp8e4m3) (r : Fin 256) (l : Fin 128) :
    k0_pay53 (k0_pay49 (BitVec.ofNat 32 (i 0).val)) (k0_pay50 (BitVec.ofNat 32 (i 0).val) (k0_pay36 v10) (k0_pay37 v10)) (k0_pay51 (BitVec.ofNat 32 (i 0).val)) (k0_pay52 (BitVec.ofNat 32 (i 0).val)) x (ix2 r l) = x (ix2 r l) * v10 (ix2 r (⟨4 * (i 0).val + 3, by have := (i 0).isLt; have : (i 0).val < 54 := this; omega⟩ : Fin 256)) := by
  have ht : (i 0).val < 54 := (i 0).isLt
  have hl := lane3 i r l
  have hp := pick3 i v10
  generalize hv31 : k0_pay49 (BitVec.ofNat 32 (i 0).val) = v31 at hl ⊢
  generalize k0_pay50 (BitVec.ofNat 32 (i 0).val) (k0_pay36 v10) (k0_pay37 v10) = v33 at hp ⊢
  have e : k0_pay53 v31 v33 (k0_pay51 (BitVec.ofNat 32 (i 0).val)) (k0_pay52 (BitVec.ofNat 32 (i 0).val)) x (ix2 r l) = x (ix2 r l) * v33 (ix2 r (⟨(4 * (i 0).val + 3) % 128, by omega⟩ : Fin 128)) := by
    unfold k0_pay53 k0_pay51 k0_pay52
    simp only [interleaveRows_rowsOfParity, hv31]
    pointwise [dynamicGather, hl]
    refine congrArg (fun z => x (ix2 r l) * v33 z) (funext fun a => Fin.ext ?_)
    fin_cases a
    · rfl
    · exact wrap_lane ⟨(4 * (i 0).val + 3) % 128, by omega⟩
  rw [e]
  refine congrArg (x (ix2 r l) * ·) (scale_of_halves v10 r _ _ _ (half_of_block 3 ⟨(i 0).val, ht⟩) _ (hp r _))

end Cert.KernelIdeal.Val

end
-- ==== Proof.KernelIdealScales.lean ====
/- The block scales of one grid point, read at an index: the quantised scale times the scale of its group of 256, plus the offset. -/
module

public import proofs.«01_k».proof.Proof.KernelIdealTile

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A comparison of a small flat index with a bound. -/
theorem ge_at : ∀ (a : Fin 8) (b : Fin 80) (c : Fin 4),
    IntOp.cmpi CmpIPredicate.sge (IntOp.addi (IntOp.muli (BitVec.ofNat 32 a.val) 80#32) (BitVec.ofNat 32 b.val)) (BitVec.ofNat 32 (128 * (c.val + 1)))
      = if 128 * (c.val + 1) ≤ 80 * a.val + b.val then 1#1 else 0#1 := by
  decide +kernel

/-- One of three neighbouring groups' scales, chosen by the flat index. -/
theorem choose_group (v3 x x' s0 s1 s2 y : EReal) (a b : ℕ) (ha : a < 8) (hb : b < 80) (c1 c2 : Fin 4) (hx : x = x')
    (h : (if 128 * (c2.val + 1) ≤ 80 * a + b then s2 else if 128 * (c1.val + 1) ≤ 80 * a + b then s1 else s0) = y) :
    x * Scalar.select (IntOp.cmpi CmpIPredicate.sge (IntOp.addi (IntOp.muli (BitVec.ofNat 32 a) 80#32) (BitVec.ofNat 32 b)) (BitVec.ofNat 32 (128 * (c2.val + 1)))) s2
        (Scalar.select (IntOp.cmpi CmpIPredicate.sge (IntOp.addi (IntOp.muli (BitVec.ofNat 32 a) 80#32) (BitVec.ofNat 32 b)) (BitVec.ofNat 32 (128 * (c1.val + 1)))) s1 s0) + v3
      = x' * y + v3 := by
  have h2 := ge_at ⟨a, ha⟩ ⟨b, hb⟩ c2
  have h1 := ge_at ⟨a, ha⟩ ⟨b, hb⟩ c1
  dsimp only at h1 h2
  rw [h1, h2, ← h, hx]
  by_cases k2 : 128 * (c2.val + 1) ≤ 80 * a + b
  · rw [if_pos k2, if_pos k2]; rfl
  · rw [if_neg k2, if_neg k2]
    by_cases k1 : 128 * (c1.val + 1) ≤ 80 * a + b
    · rw [if_pos k1, if_pos k1]; rfl
    · rw [if_neg k1, if_neg k1]; rfl

set_option maxHeartbeats 2000000 in
/-- The block scales of 32 rows, read at an index: the quantised scale times its group's scale, plus the offset. -/
theorem group_tile (v3 : EReal) (q : Vec Ideal S32x80 .i8) (s : Fin 10 → EReal) (m : Fin 16) (h : Fin 2) (b : Fin 128) (hb : b.val < 80) :
    k0_pay34 (F := Ideal) (k0_pay4 (F := Ideal) v3 k0_pay33 q (s ⟨0, by decide⟩) (s ⟨1, by decide⟩) (s ⟨2, by decide⟩))
      (k0_pay7 (F := Ideal) v3 (k0_pay3 (F := Ideal) q) (k0_pay5 (F := Ideal) k0_pay33 (s ⟨2, by decide⟩) (s ⟨3, by decide⟩)) (k0_pay6 k0_pay33) (s ⟨4, by decide⟩))
      (k0_pay8 (F := Ideal) v3 k0_pay33 (k0_pay3 (F := Ideal) q) (s ⟨5, by decide⟩) (s ⟨6, by decide⟩) (s ⟨7, by decide⟩))
      (k0_pay9 (F := Ideal) k0_pay33 (k0_pay3 (F := Ideal) q) (s ⟨7, by decide⟩) (s ⟨8, by decide⟩) (s ⟨9, by decide⟩)) (k0_pay10 (F := Ideal) v3) (ix3 m h b)
      = FloatOps.sitofp (F := Ideal) FTy.f32 (q (ix2 (⟨2 * m.val + h.val, by omega⟩ : Fin 32) (⟨b.val, hb⟩ : Fin 80)))
          * s ⟨((2 * m.val + h.val) * 80 + b.val) / 256, by omega⟩ + v3 := by
  have hh := h.isLt
  have hm := m.isLt
  pointwise [k0_pay34, k0_pay4, k0_pay7, k0_pay3, k0_pay33, k0_pay5, k0_pay6, k0_pay8, k0_pay9, k0_pay10]
  have hq (ρ ρ' : Fin 32) (e : ρ.val = ρ'.val) : FloatOps.sitofp (F := Ideal) FTy.f32 (q (ix2 ρ (⟨b.val, hb⟩ : Fin 80))) = FloatOps.sitofp (F := Ideal) FTy.f32 (q (ix2 ρ' (⟨b.val, hb⟩ : Fin 80))) := by
    rw [Fin.ext e]
  have hs (g g' : Fin 10) (e : g.val = g'.val) : s g = s g' := by rw [Fin.ext e]
  rw [dif_pos hb, dif_pos hb]
  split
  · split
    · refine choose_group v3 _ _ _ _ _ _ _ _ (by omega) hb 1 3 (hq _ _ ?_) ?_
      · dsimp only; omega
      · split_ifs <;> exact hs _ _ (by dsimp only at *; omega)
    · split
      · refine choose_group v3 _ _ _ _ _ _ _ _ (by omega) hb 0 2 (hq _ _ ?_) ?_
        · dsimp only; omega
        · split_ifs <;> exact hs _ _ (by dsimp only at *; omega)
      · split
        · refine choose_group v3 _ _ _ _ _ _ _ _ (by omega) hb 1 3 (hq _ _ ?_) ?_
          · dsimp only; omega
          · split_ifs <;> exact hs _ _ (by dsimp only at *; omega)
        · refine choose_group v3 _ _ _ _ _ _ _ _ (by omega) hb 0 2 (hq _ _ ?_) ?_
          · dsimp only; omega
          · split_ifs <;> exact hs _ _ (by dsimp only at *; omega)
  · split
    · refine choose_group v3 _ _ _ _ _ _ _ _ (by omega) hb 1 3 (hq _ _ ?_) ?_
      · dsimp only; omega
      · split_ifs <;> exact hs _ _ (by dsimp only at *; omega)
    · split
      · refine choose_group v3 _ _ _ _ _ _ _ _ (by omega) hb 0 2 (hq _ _ ?_) ?_
        · dsimp only; omega
        · split_ifs <;> exact hs _ _ (by dsimp only at *; omega)
      · split
        · refine choose_group v3 _ _ _ _ _ _ _ _ (by omega) hb 1 3 (hq _ _ ?_) ?_
          · dsimp only; omega
          · split_ifs <;> exact hs _ _ (by dsimp only at *; omega)
        · refine choose_group v3 _ _ _ _ _ _ _ _ (by omega) hb 0 2 (hq _ _ ?_) ?_
          · dsimp only; omega
          · split_ifs <;> exact hs _ _ (by dsimp only at *; omega)

/-- The block scale of a row and a block of 32 columns, from the blocks the grid point `t` reads. -/
def blockScale (t : Fin 54) (v3 : EReal) (x1 : Vec Ideal S8640 .f32) (x7 : Vec Ideal S512x80 .i8) (κ : Fin 512) (b : Fin 80) : EReal :=
  FloatOps.sitofp (F := Ideal) FTy.f32 (x7 (ix2 κ b)) * x1 (ix1 (⟨((512 * t.val + κ.val) * 80 + b.val) / 256, by omega⟩ : Fin 8640)) + v3

/-- A counter of loop 1 is below the loop's bound. -/
theorem t1_lt (k : Fin k0_t1_loop.trips) : k.val < 16 := Nat.lt_of_lt_of_le k.isLt k0_t1_abs.2.1
/-- The number of trips of loop 1. -/
theorem trips1 : k0_t1_loop.trips = 16 := by decide

/-- The number of a grid point. -/
def point (i : grid0.Coords) : Fin 54 := ⟨(i 0).val, (i 0).isLt⟩

/-- A load of one scalar from the groups' scales. -/
theorem scalar_at (i : grid0.Coords) (arg1 : Memref sig .tc .smem S8640 .f32) (X1 : BufTy.Contents (Elt Ideal) arg1.view.ty) (k : Fin k0_t1_loop.trips) (r : Fin 10) (inb) (y) :
    View.readAt (Elt Ideal) arg1.view (Rect.unit (s := S8640) (k0_off2 i k (BitVec.ofNat 32 r.val)) ![1] inb).toLoadRect X1 y
      = arg1.view.read (Elt Ideal) X1 (ix1 (⟨160 * (i 0).val + 10 * k.val + r.val, by have := (i 0).isLt; have : (i 0).val < 54 := this; have := t1_lt k; omega⟩ : Fin 8640)) := by
  refine readAt_at arg1.view X1 _ (k0_off2_eq i k r) _ _ (fun a => ?_)
  fin_cases a
  have h0 := (y 0).isLt
  have h0 : (y 0).val < 1 := h0
  show 160 * (i 0).val + 10 * k.val + r.val = 160 * (i 0).val + 10 * k.val + r.val + (y 0).val
  omega

/-- What one trip leaves in the block scales' scratch, read at an index of a block the weights use. -/
theorem trip_read10 (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (arg0 : BitVec 32) (v3 : EReal) (X1 : BufTy.Contents (Elt Ideal) arg1.view.ty) (X7 : BufTy.Contents (Elt Ideal) arg7.view.ty) (k : Fin k0_t1_loop.trips) (G : BufTy.Contents (Elt Ideal) arg10.view.ty) (m : Fin 256) (h : Fin 2) (b : Fin 128) (hb : b.val < 80) :
    arg10.view.read (Elt Ideal) (arg10.view.writes (Elt Ideal) G (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg0 v3 X1 X7 k)) (ix3 m h b)
      = if 16 * k.val ≤ m.val ∧ m.val < 16 * k.val + 16 then
          blockScale (point i) v3 (arg1.view.read (Elt Ideal) X1) (arg7.view.read (Elt Ideal) X7) (⟨2 * m.val + h.val, by omega⟩ : Fin 512) ⟨b.val, hb⟩
        else arg10.view.read (Elt Ideal) G (ix3 m h b) := by
  have hk := t1_lt k
  have ht : (i 0).val < 54 := (i 0).isLt
  unfold tripL_k0_t1 trip_k0_t1
  sl_unfold_run_names
  dsimp only
  by_cases hm : 16 * k.val ≤ m.val ∧ m.val < 16 * k.val + 16
  · rw [if_pos hm]
    refine Eq.trans (View.read_writes_cons_unit_of_mem arg10.view G _ _ _ (ix3 m h b) (ix3 (⟨m.val - 16 * k.val, by omega⟩ : Fin 16) h b) (k0_off3_eq k)
      (fun a => by fin_cases a; exacts [by show m.val = 16 * k.val + (m.val - 16 * k.val); omega, (Nat.zero_add _).symm, (Nat.zero_add _).symm])) ?_
    have e0 (inb) (y) : View.readAt (Elt Ideal) arg1.view (Rect.unit (s := S8640) (k0_off2 i k 0#32) ![1] inb).toLoadRect X1 y = _ := scalar_at i arg1 X1 k 0 inb y
    have e1 (inb) (y) : View.readAt (Elt Ideal) arg1.view (Rect.unit (s := S8640) (k0_off2 i k 1#32) ![1] inb).toLoadRect X1 y = _ := scalar_at i arg1 X1 k 1 inb y
    have e2 (inb) (y) : View.readAt (Elt Ideal) arg1.view (Rect.unit (s := S8640) (k0_off2 i k 2#32) ![1] inb).toLoadRect X1 y = _ := scalar_at i arg1 X1 k 2 inb y
    have e3 (inb) (y) : View.readAt (Elt Ideal) arg1.view (Rect.unit (s := S8640) (k0_off2 i k 3#32) ![1] inb).toLoadRect X1 y = _ := scalar_at i arg1 X1 k 3 inb y
    have e4 (inb) (y) : View.readAt (Elt Ideal) arg1.view (Rect.unit (s := S8640) (k0_off2 i k 4#32) ![1] inb).toLoadRect X1 y = _ := scalar_at i arg1 X1 k 4 inb y
    have e5 (inb) (y) : View.readAt (Elt Ideal) arg1.view (Rect.unit (s := S8640) (k0_off2 i k 5#32) ![1] inb).toLoadRect X1 y = _ := scalar_at i arg1 X1 k 5 inb y
    have e6 (inb) (y) : View.readAt (Elt Ideal) arg1.view (Rect.unit (s := S8640) (k0_off2 i k 6#32) ![1] inb).toLoadRect X1 y = _ := scalar_at i arg1 X1 k 6 inb y
    have e7 (inb) (y) : View.readAt (Elt Ideal) arg1.view (Rect.unit (s := S8640) (k0_off2 i k 7#32) ![1] inb).toLoadRect X1 y = _ := scalar_at i arg1 X1 k 7 inb y
    have e8 (inb) (y) : View.readAt (Elt Ideal) arg1.view (Rect.unit (s := S8640) (k0_off2 i k 8#32) ![1] inb).toLoadRect X1 y = _ := scalar_at i arg1 X1 k 8 inb y
    have e9 (inb) (y) : View.readAt (Elt Ideal) arg1.view (Rect.unit (s := S8640) (k0_off2 i k 9#32) ![1] inb).toLoadRect X1 y = _ := scalar_at i arg1 X1 k 9 inb y
    simp only [e0, e1, e2, e3, e4, e5, e6, e7, e8, e9]
    refine (group_tile v3 _ (fun g => arg1.view.read (Elt Ideal) X1 (ix1 (⟨160 * (i 0).val + 10 * k.val + g.val, by omega⟩ : Fin 8640))) _ h b hb).trans ?_
    unfold blockScale
    have hh := h.isLt
    refine congrArg (· + v3) (congrArg₂ (· * ·) (congrArg (FloatOps.sitofp (F := Ideal) FTy.f32) ?_) (congrArg (fun z : Fin 8640 => arg1.view.read (Elt Ideal) X1 (ix1 z)) (Fin.ext ?_)))
    · exact readAt_at arg7.view X7 _ (k0_off1_eq k) _ (ix2 (⟨2 * m.val + h.val, by omega⟩ : Fin 512) (⟨b.val, hb⟩ : Fin 80)) (fun a => by
        fin_cases a; exacts [by show 2 * m.val + h.val = 32 * k.val + (2 * (m.val - 16 * k.val) + h.val); omega, (Nat.zero_add _).symm])
    · show 160 * (i 0).val + 10 * k.val + ((2 * (m.val - 16 * k.val) + h.val) * 80 + b.val) / 256 = ((512 * (i 0).val + (2 * m.val + h.val)) * 80 + b.val) / 256
      omega
  · rw [if_neg hm]
    have hm' : m.val < 16 * k.val ∨ 16 * k.val + 16 ≤ m.val := by omega
    refine Eq.trans (View.read_writes_cons_unit_of_not_mem arg10.view G _ _ _ (ix3 m h b) (k0_off3_eq k) (0 : Fin 3) hm') ?_
    rfl

/-- The block scales' scratch after the trips before `n`. -/
theorem trips_read10 (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (arg0 : BitVec 32) (v3 : EReal) (X1 : BufTy.Contents (Elt Ideal) arg1.view.ty) (X7 : BufTy.Contents (Elt Ideal) arg7.view.ty) (G : BufTy.Contents (Elt Ideal) arg10.view.ty) (m : Fin 256) (h : Fin 2) (b : Fin 128) (hb : b.val < 80) (n : ℕ) (hn : n ≤ k0_t1_loop.trips) :
    arg10.view.read (Elt Ideal) (arg10.view.writes (Elt Ideal) G (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg0 v3 X1 X7 n)) (ix3 m h b)
      = if m.val < 16 * n then
          blockScale (point i) v3 (arg1.view.read (Elt Ideal) X1) (arg7.view.read (Elt Ideal) X7) (⟨2 * m.val + h.val, by omega⟩ : Fin 512) ⟨b.val, hb⟩
        else arg10.view.read (Elt Ideal) G (ix3 m h b) := by
  induction n with
  | zero => rw [if_neg (by omega)]; rfl
  | succ n ih =>
    have ih := ih (Nat.le_of_succ_le hn)
    have hs := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg0 v3 X1 X7 ⟨n, hn⟩
    rw [show pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg0 v3 X1 X7 (n + 1) = _ from hs]
    rw [View.writes_append, trip_read10 c i arg1 harg1 arg2 harg2 arg3 harg3 arg4 harg4 arg5 harg5 arg6 harg6 arg7 harg7 arg8 harg8 arg9 harg9 arg10 harg10 arg11 harg11 arg12 harg12 arg13 harg13 arg0 v3 X1 X7 ⟨n, hn⟩ _ m h b hb]
    refine Eq.trans (congrArg (fun z => if 16 * n ≤ m.val ∧ m.val < 16 * n + 16 then _ else z) ih) ?_
    by_cases h1 : m.val < 16 * n
    · rw [if_neg (by omega), if_pos h1, if_pos (by omega)]
    · by_cases h2 : m.val < 16 * (n + 1)
      · rw [if_pos (by omega), if_pos h2]
      · rw [if_neg (by omega), if_neg h1, if_neg h2]

end Cert.KernelIdeal.Val

end
-- ==== Proof.KernelIdealOut.lean ====
/- The result a last grid point writes, read at an index: even columns are the low halves' sums, odd ones the high halves'. -/
module

public import proofs.«01_k».proof.Proof.KernelIdealTile

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The even lanes. -/
theorem even_lane (a l : Fin 128) : k0_pay30 (ix2 a l) = if l.val % 2 = 0 then 1#1 else 0#1 := by
  pointwise [k0_pay30]
  revert l
  decide +kernel

/-- Half the lane. -/
theorem half_lane (a l : Fin 128) : k0_pay31 (ix2 a l) = BitVec.ofNat 32 (l.val / 2) := by
  pointwise [k0_pay31]
  revert l
  decide +kernel

/-- Where a lane of the first 128 columns looks its value up. -/
theorem source_lo : ∀ l : Fin 128, (Scalar.select
                    (IntOp.cmpi CmpIPredicate.slt (IntOp.addi (BitVec.ofNat 32 (l.val / 2)) 0#32) 0#32)
                    (IntOp.addi (IntOp.addi (BitVec.ofNat 32 (l.val / 2)) 0#32) 128#32)
                    (IntOp.addi (BitVec.ofNat 32 (l.val / 2)) 0#32)).toNat % 128 = 0 + l.val / 2 := by
  decide +kernel

/-- The first 128 columns of a block of 256 results: even columns from the low halves' accumulator, odd ones from the high halves'. -/
theorem out_lo (e : IVec S128x128 1) (v : IVec S128x128 32) (g0 g1 : Vec Ideal S1x256x128 .f32) (r : Fin 256) (l : Fin 128)
    (he : ∀ a : Fin 128, e (ix2 a l) = if l.val % 2 = 0 then 1#1 else 0#1) (hv : ∀ a : Fin 128, v (ix2 a l) = BitVec.ofNat 32 (l.val / 2)) :
    k0_pay1 (F := Ideal) (k0_pay28 (F := Ideal) e v g0 g1) (k0_pay29 (F := Ideal) e v g0 g1) (ix2 r l)
      = if l.val % 2 = 0 then g0 (ix3 (0 : Fin 1) r (⟨0 + l.val / 2, by omega⟩ : Fin 128)) else g1 (ix3 (0 : Fin 1) r (⟨0 + l.val / 2, by omega⟩ : Fin 128)) := by
  pointwise [k0_pay1, k0_pay28, k0_pay29, k0_pay26, k0_pay27, k0_pay25, k0_pay20, k0_pay21, k0_pay19, k0_pay22, k0_pay23, k0_pay24, interleaveRows_rowsOfParity, dynamicGather, he, hv]
  simp only [dite_eq_ite, ite_self, source_lo]
  have hr (g : Vec Ideal S1x256x128 .f32) (ρ : Fin 256) (q q' : Fin 128) (hq : q.val = q'.val) (h : ρ.val = r.val) : g (ix3 (0 : Fin 1) ρ q) = g (ix3 (0 : Fin 1) r q') := by rw [Fin.ext h, Fin.ext hq]
  have s1 (a b : EReal) : Scalar.select 1#1 a b = a := rfl
  have s0 (a b : EReal) : Scalar.select 0#1 a b = b := rfl
  by_cases hl : l.val % 2 = 0
  · simp only [if_pos hl, s1]
    split
    · refine hr g0 _ _ _ (by first | rfl | exact Nat.zero_add _) ?_; show 2 * (r.val / 2) = r.val; omega
    · refine hr g0 _ _ _ (by first | rfl | exact Nat.zero_add _) ?_; show 2 * (r.val / 2) + 1 = r.val; omega
  · simp only [if_neg hl, s0]
    split
    · refine hr g1 _ _ _ (by first | rfl | exact Nat.zero_add _) ?_; show 2 * (r.val / 2) = r.val; omega
    · refine hr g1 _ _ _ (by first | rfl | exact Nat.zero_add _) ?_; show 2 * (r.val / 2) + 1 = r.val; omega

/-- Where a lane of the second 128 columns looks its value up. -/
theorem source_hi : ∀ l : Fin 128, (Scalar.select
                    (IntOp.cmpi CmpIPredicate.slt (IntOp.addi (BitVec.ofNat 32 (l.val / 2)) 64#32) 0#32)
                    (IntOp.addi (IntOp.addi (BitVec.ofNat 32 (l.val / 2)) 64#32) 128#32)
                    (IntOp.addi (BitVec.ofNat 32 (l.val / 2)) 64#32)).toNat % 128 = 64 + l.val / 2 := by
  decide +kernel

/-- The second 128 columns of a block of 256 results: even columns from the low halves' accumulator, odd ones from the high halves'. -/
theorem out_hi (e : IVec S128x128 1) (v : IVec S128x128 32) (g0 g1 : Vec Ideal S1x256x128 .f32) (r : Fin 256) (l : Fin 128)
    (he : ∀ a : Fin 128, e (ix2 a l) = if l.val % 2 = 0 then 1#1 else 0#1) (hv : ∀ a : Fin 128, v (ix2 a l) = BitVec.ofNat 32 (l.val / 2)) :
    k0_pay2 (F := Ideal) e v (k0_pay20 (F := Ideal) g0) (k0_pay21 (F := Ideal) g0) (k0_pay23 (F := Ideal) g1) (k0_pay24 (F := Ideal) g1) (ix2 r l)
      = if l.val % 2 = 0 then g0 (ix3 (0 : Fin 1) r (⟨64 + l.val / 2, by omega⟩ : Fin 128)) else g1 (ix3 (0 : Fin 1) r (⟨64 + l.val / 2, by omega⟩ : Fin 128)) := by
  pointwise [k0_pay2, k0_pay20, k0_pay21, k0_pay19, k0_pay22, k0_pay23, k0_pay24, interleaveRows_rowsOfParity, dynamicGather, he, hv]
  simp only [dite_eq_ite, ite_self, source_hi]
  have hr (g : Vec Ideal S1x256x128 .f32) (ρ : Fin 256) (q q' : Fin 128) (hq : q.val = q'.val) (h : ρ.val = r.val) : g (ix3 (0 : Fin 1) ρ q) = g (ix3 (0 : Fin 1) r q') := by rw [Fin.ext h, Fin.ext hq]
  have s1 (a b : EReal) : Scalar.select 1#1 a b = a := rfl
  have s0 (a b : EReal) : Scalar.select 0#1 a b = b := rfl
  by_cases hl : l.val % 2 = 0
  · simp only [if_pos hl, s1]
    split
    · refine hr g0 _ _ _ (by first | rfl | exact Nat.zero_add _) ?_; show 2 * (r.val / 2) = r.val; omega
    · refine hr g0 _ _ _ (by first | rfl | exact Nat.zero_add _) ?_; show 2 * (r.val / 2) + 1 = r.val; omega
  · simp only [if_neg hl, s0]
    split
    · refine hr g1 _ _ _ (by first | rfl | exact Nat.zero_add _) ?_; show 2 * (r.val / 2) = r.val; omega
    · refine hr g1 _ _ _ (by first | rfl | exact Nat.zero_add _) ?_; show 2 * (r.val / 2) + 1 = r.val; omega

/-- A counter of loop 5 is below the loop's bound. -/
theorem t5_lt (k : Fin k0_t5_loop.trips) : k.val < 20 := Nat.lt_of_lt_of_le k.isLt k0_t5_abs.2.1
/-- The number of trips of loop 5. -/
theorem trips5 : k0_t5_loop.trips = 20 := by decide

/-- The interleaved accumulators at a row and a result column. -/
def woven (acc : Vec Ideal S2x256x2560 .f32) (r : Fin 256) (n : Fin 5120) : EReal :=
  acc (ix3 (⟨n.val % 2, by omega⟩ : Fin 2) r (⟨n.val / 2, by omega⟩ : Fin 2560))

/-- What one trip leaves in the result, read at an index. -/
theorem trip_read8 (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (hl : k0_cond2 i = 1#1) (c0 : BitVec 32) (X13 : BufTy.Contents (Elt Ideal) arg13.view.ty) (k : Fin k0_t5_loop.trips) (G : BufTy.Contents (Elt Ideal) arg8.view.ty) (r : Fin 256) (n : Fin 5120) :
    arg8.view.read (Elt Ideal) (arg8.view.writes (Elt Ideal) G (tripL_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 hl k0_pay30 k0_pay31 c0 X13 k)) (ix2 r n)
      = if 256 * k.val ≤ n.val ∧ n.val < 256 * k.val + 256 then woven (arg13.view.read (Elt Ideal) X13) r n
        else arg8.view.read (Elt Ideal) G (ix2 r n) := by
  have hk := t5_lt k
  unfold tripL_k0_t5 trip_k0_t5
  sl_unfold_run_names
  dsimp only
  have o0 : k0_off12 k 0#32 = ![0, 256 * k.val] := k0_off12_eq k 0
  have o1 : k0_off12 k 128#32 = ![0, 256 * k.val + 128] := k0_off12_eq k 1
  have hn := n.isLt
  by_cases hm : 256 * k.val ≤ n.val ∧ n.val < 256 * k.val + 256
  · rw [if_pos hm]
    by_cases h2 : n.val < 256 * k.val + 128
    · refine Eq.trans (View.read_writes_cons_unit_of_not_mem arg8.view G _ _ _ (ix2 r n) o1 (1 : Fin 2) (Or.inl h2)) ?_
      refine Eq.trans (View.read_writes_cons_unit_of_mem arg8.view G _ _ _ (ix2 r n) (ix2 r (⟨n.val - 256 * k.val, by omega⟩ : Fin 128)) o0
        (fun a => by fin_cases a; exacts [(Nat.zero_add _).symm, by show n.val = 256 * k.val + (n.val - 256 * k.val); omega])) ?_
      refine (out_lo _ _ _ _ r _ (fun a => even_lane a _) (fun a => half_lane a _)).trans ?_
      unfold woven
      by_cases hp : n.val % 2 = 0
      · rw [if_pos (by show (n.val - 256 * k.val) % 2 = 0; omega)]
        exact readAt_at arg13.view X13 _ (k0_off10_eq k) _ _ (fun a => by
          fin_cases a; exacts [hp, (Nat.zero_add _).symm, by show n.val / 2 = 128 * k.val + (0 + (n.val - 256 * k.val) / 2); omega])
      · rw [if_neg (by show ¬ (n.val - 256 * k.val) % 2 = 0; omega)]
        exact readAt_at arg13.view X13 _ (k0_off11_eq k) _ _ (fun a => by
          fin_cases a; exacts [by show n.val % 2 = 1 + 0; omega, (Nat.zero_add _).symm, by show n.val / 2 = 128 * k.val + (0 + (n.val - 256 * k.val) / 2); omega])
    · refine Eq.trans (View.read_writes_cons_unit_of_mem arg8.view G _ _ _ (ix2 r n) (ix2 r (⟨n.val - (256 * k.val + 128), by omega⟩ : Fin 128)) o1
        (fun a => by fin_cases a; exacts [(Nat.zero_add _).symm, by show n.val = 256 * k.val + 128 + (n.val - (256 * k.val + 128)); omega])) ?_
      refine (out_hi _ _ _ _ r _ (fun a => even_lane a _) (fun a => half_lane a _)).trans ?_
      unfold woven
      by_cases hp : n.val % 2 = 0
      · rw [if_pos (by show (n.val - (256 * k.val + 128)) % 2 = 0; omega)]
        exact readAt_at arg13.view X13 _ (k0_off10_eq k) _ _ (fun a => by
          fin_cases a; exacts [hp, (Nat.zero_add _).symm, by show n.val / 2 = 128 * k.val + (64 + (n.val - (256 * k.val + 128)) / 2); omega])
      · rw [if_neg (by show ¬ (n.val - (256 * k.val + 128)) % 2 = 0; omega)]
        exact readAt_at arg13.view X13 _ (k0_off11_eq k) _ _ (fun a => by
          fin_cases a; exacts [by show n.val % 2 = 1 + 0; omega, (Nat.zero_add _).symm, by show n.val / 2 = 128 * k.val + (64 + (n.val - (256 * k.val + 128)) / 2); omega])
  · rw [if_neg hm]
    refine Eq.trans (View.read_writes_cons_unit_of_not_mem arg8.view G _ _ _ (ix2 r n) o1 (1 : Fin 2) (by show n.val < 256 * k.val + 128 ∨ 256 * k.val + 128 + 128 ≤ n.val; omega)) ?_
    refine Eq.trans (View.read_writes_cons_unit_of_not_mem arg8.view G _ _ _ (ix2 r n) o0 (1 : Fin 2) (by show n.val < 256 * k.val ∨ 256 * k.val + 128 ≤ n.val; omega)) ?_
    rfl

/-- The result after the trips before `m`. -/
theorem trips_read8 (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (hl : k0_cond2 i = 1#1) (c0 : BitVec 32) (X13 : BufTy.Contents (Elt Ideal) arg13.view.ty) (G : BufTy.Contents (Elt Ideal) arg8.view.ty) (r : Fin 256) (n : Fin 5120) (m : ℕ) (hm : m ≤ k0_t5_loop.trips) :
    arg8.view.read (Elt Ideal) (arg8.view.writes (Elt Ideal) G (pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 hl k0_pay30 k0_pay31 c0 X13 m)) (ix2 r n)
      = if n.val < 256 * m then woven (arg13.view.read (Elt Ideal) X13) r n
        else arg8.view.read (Elt Ideal) G (ix2 r n) := by
  induction m with
  | zero => rw [if_neg (by omega)]; rfl
  | succ m ih =>
    have ih := ih (Nat.le_of_succ_le hm)
    have hs := pb_k0_t5_succ (F := Ideal) Variants.none c none i arg1 harg1 arg2 harg2 arg3 harg3 arg4 harg4 arg5 harg5 arg6 harg6 arg7 harg7 arg8 harg8 arg9 harg9 arg10 harg10 arg11 harg11 arg12 harg12 arg13 harg13 hl k0_pay30 k0_pay31 c0 X13 ⟨m, hm⟩
    rw [show pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 hl k0_pay30 k0_pay31 c0 X13 (m + 1) = _ from hs]
    rw [View.writes_append, trip_read8 c i arg1 harg1 arg2 harg2 arg3 harg3 arg4 harg4 arg5 harg5 arg6 harg6 arg7 harg7 arg8 harg8 arg9 harg9 arg10 harg10 arg11 harg11 arg12 harg12 arg13 harg13 hl c0 X13 ⟨m, hm⟩ _ r n]
    refine Eq.trans (congrArg (fun z => if 256 * m ≤ n.val ∧ n.val < 256 * m + 256 then _ else z) ih) ?_
    by_cases h1 : n.val < 256 * m
    · rw [if_neg (by omega), if_pos h1, if_pos (by omega)]
    · by_cases h2 : n.val < 256 * (m + 1)
      · rw [if_pos (by omega), if_pos h2]
      · rw [if_neg (by omega), if_neg h1, if_neg h2]

end Cert.KernelIdeal.Val

end
-- ==== Proof.KernelIdealPoint.lean ====
/- What one grid point adds to the accumulator, as a function of the blocks it is given. -/
module

public import proofs.«01_k».proof.Proof.KernelIdealBlocks
public import proofs.«01_k».proof.Proof.KernelIdealCodes
public import proofs.«01_k».proof.Proof.KernelIdealScales
public import proofs.«01_k».proof.Proof.KernelIdealOut

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A scaled code of point `t`: row `r`, contraction index `κ` of the point's 512. -/
def codeAt (t : Fin 54) (x3 : Vec Ideal S256x512 .fp8e4m3) (x4 : Vec Ideal S256x256 .f32) (r : Fin 256) (κ : Fin 512) : EReal :=
  x3 (ix2 r κ) * x4 (ix2 r (⟨4 * t.val + κ.val / 128, by omega⟩ : Fin 256))

/-- A decoded weight of point `t`: half `h` of the byte at contraction index `κ` and column `p`. -/
def weightAt (t : Fin 54) (x0 : Vec Ideal S8640 .f32) (x1 : Vec Ideal S1 .f32) (x2 : Vec Ideal S32x128 .i8) (x5 : Vec Ideal S512x2560 .i8) (x6 : Vec Ideal S512x80 .i8) (h : Fin 2) (κ : Fin 512) (p : Fin 2560) : EReal :=
  entry x2 (codeOf h (x5 (ix2 κ p))) (⟨p.val % 128, Nat.mod_lt _ (by decide)⟩ : Fin 128)
    * blockScale t (x1 (ix1 (0 : Fin 1))) x0 x6 κ (⟨p.val / 32, by omega⟩ : Fin 80)

/-- The accumulator after point `t`, from the accumulator before it. -/
def stepAcc (t : Fin 54) (x0 : Vec Ideal S8640 .f32) (x1 : Vec Ideal S1 .f32) (x2 : Vec Ideal S32x128 .i8) (x3 : Vec Ideal S256x512 .fp8e4m3) (x4 : Vec Ideal S256x256 .f32) (x5 : Vec Ideal S512x2560 .i8) (x6 : Vec Ideal S512x80 .i8) (a : Vec Ideal S2x256x2560 .f32) : Vec Ideal S2x256x2560 .f32 := fun y =>
  a y + ∑ κ : Fin 512, codeAt t x3 x4 ((y 1).cast rfl) κ * weightAt t x0 x1 x2 x5 x6 ((y 0).cast rfl) κ ((y 2).cast rfl)

/-- The accumulator cleared. -/
def zeroAcc : Vec Ideal S2x256x2560 .f32 := fun _ => 0

/-- The result from the accumulators. -/
def outOf (a : Vec Ideal S2x256x2560 .f32) : Vec Ideal S256x5120 .bf16 := fun y => woven a ((y 0).cast rfl) ((y 1).cast rfl)

/-- The four blocks of scaled codes the body stores, read at an index. -/
theorem codes_read (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (X4 : BufTy.Contents (Elt Ideal) arg4.view.ty) (X5 : BufTy.Contents (Elt Ideal) arg5.view.ty) (G : BufTy.Contents (Elt Ideal) arg9.view.ty) (r : Fin 256) (κ : Fin 512) :
    arg9.view.read (Elt Ideal) (arg9.view.writes (Elt Ideal) G [⟨Rect.unit ![0, 384] S256x128.size inb_S256x512_S256x128_0_384, k0_pay53 (F := Ideal) (k0_pay49 (BitVec.ofNat 32 (i 0).val)) (k0_pay50 (F := Ideal) (BitVec.ofNat 32 (i 0).val) (k0_pay36 (F := Ideal) (View.readAt (Elt Ideal) arg5.view (Rect.unit ![0, 0] S256x256.size inb_S256x256_S256x256_0_0).toLoadRect X5)) (k0_pay37 (F := Ideal) (View.readAt (Elt Ideal) arg5.view (Rect.unit ![0, 0] S256x256.size inb_S256x256_S256x256_0_0).toLoadRect X5))) (k0_pay51 (BitVec.ofNat 32 (i 0).val)) (k0_pay52 (BitVec.ofNat 32 (i 0).val)) (View.readAt (Elt Ideal) arg4.view (Rect.unit (s := S256x512) ![0, 384] S256x128.size inb_S256x512_S256x128_0_384).toLoadRect X4)⟩, ⟨Rect.unit ![0, 256] S256x128.size inb_S256x512_S256x128_0_256, k0_pay48 (F := Ideal) (k0_pay45 (BitVec.ofNat 32 (i 0).val)) (k0_pay46 (F := Ideal) (BitVec.ofNat 32 (i 0).val) (k0_pay36 (F := Ideal) (View.readAt (Elt Ideal) arg5.view (Rect.unit ![0, 0] S256x256.size inb_S256x256_S256x256_0_0).toLoadRect X5)) (k0_pay37 (F := Ideal) (View.readAt (Elt Ideal) arg5.view (Rect.unit ![0, 0] S256x256.size inb_S256x256_S256x256_0_0).toLoadRect X5))) (k0_pay47 (BitVec.ofNat 32 (i 0).val)) 128#32 (View.readAt (Elt Ideal) arg4.view (Rect.unit (s := S256x512) ![0, 256] S256x128.size inb_S256x512_S256x128_0_256).toLoadRect X4)⟩, ⟨Rect.unit ![0, 128] S256x128.size inb_S256x512_S256x128_0_128, k0_pay44 (F := Ideal) (k0_pay41 (BitVec.ofNat 32 (i 0).val)) (k0_pay42 (F := Ideal) (BitVec.ofNat 32 (i 0).val) (k0_pay36 (F := Ideal) (View.readAt (Elt Ideal) arg5.view (Rect.unit ![0, 0] S256x256.size inb_S256x256_S256x256_0_0).toLoadRect X5)) (k0_pay37 (F := Ideal) (View.readAt (Elt Ideal) arg5.view (Rect.unit ![0, 0] S256x256.size inb_S256x256_S256x256_0_0).toLoadRect X5))) k0_pay43 (View.readAt (Elt Ideal) arg4.view (Rect.unit (s := S256x512) ![0, 128] S256x128.size inb_S256x512_S256x128_0_128).toLoadRect X4)⟩, ⟨Rect.unit ![0, 0] S256x128.size inb_S256x512_S256x128_0_0, k0_pay40 (F := Ideal) (k0_pay38 i) (k0_pay39 (F := Ideal) i (View.readAt (Elt Ideal) arg5.view (Rect.unit ![0, 0] S256x256.size inb_S256x256_S256x256_0_0).toLoadRect X5)) (View.readAt (Elt Ideal) arg4.view (Rect.unit (s := S256x512) ![0, 0] S256x128.size inb_S256x512_S256x128_0_0).toLoadRect X4)⟩]) (ix2 r κ)
      = codeAt (point i) (arg4.view.read (Elt Ideal) X4) (arg5.view.read (Elt Ideal) X5) r κ := by
  have ht : (i 0).val < 54 := (i 0).isLt
  unfold codeAt
  change _ = arg4.view.read (Elt Ideal) X4 (ix2 r κ) * arg5.view.read (Elt Ideal) X5 (ix2 r (⟨4 * (i 0).val + κ.val / 128, by omega⟩ : Fin 256))
  by_cases h3 : 384 ≤ κ.val
  · refine Eq.trans (View.read_writes_cons_unit_of_mem arg9.view _ _ _ _ (ix2 r κ) (ix2 r (⟨κ.val - 384, by omega⟩ : Fin 128)) rfl
      (fun a => by fin_cases a; exacts [(Nat.zero_add _).symm, by show κ.val = 384 + (κ.val - 384); omega])) ?_
    refine (scaled3 i _ _ r _).trans ?_
    refine congrArg₂ (· * ·) ?_ ?_
    · exact readAt_at arg4.view X4 _ rfl _ _ (fun a => by fin_cases a; exacts [(Nat.zero_add _).symm, by show κ.val = 384 + (κ.val - 384); omega])
    · exact readAt_at arg5.view X5 _ rfl _ _ (fun a => by fin_cases a; exacts [(Nat.zero_add _).symm, by show 4 * (i 0).val + κ.val / 128 = 0 + (4 * (i 0).val + 3); omega])
  by_cases h2 : 256 ≤ κ.val
  · refine Eq.trans (View.read_writes_cons_unit_of_not_mem arg9.view _ _ _ _ (ix2 r κ) rfl (1 : Fin 2) (Or.inl (show κ.val < 384 by omega))) ?_
    refine Eq.trans (View.read_writes_cons_unit_of_mem arg9.view _ _ _ _ (ix2 r κ) (ix2 r (⟨κ.val - 256, by omega⟩ : Fin 128)) rfl
      (fun a => by fin_cases a; exacts [(Nat.zero_add _).symm, by show κ.val = 256 + (κ.val - 256); omega])) ?_
    refine (scaled2 i _ _ r _).trans ?_
    refine congrArg₂ (· * ·) ?_ ?_
    · exact readAt_at arg4.view X4 _ rfl _ _ (fun a => by fin_cases a; exacts [(Nat.zero_add _).symm, by show κ.val = 256 + (κ.val - 256); omega])
    · exact readAt_at arg5.view X5 _ rfl _ _ (fun a => by fin_cases a; exacts [(Nat.zero_add _).symm, by show 4 * (i 0).val + κ.val / 128 = 0 + (4 * (i 0).val + 2); omega])
  by_cases h1 : 128 ≤ κ.val
  · refine Eq.trans (View.read_writes_cons_unit_of_not_mem arg9.view _ _ _ _ (ix2 r κ) rfl (1 : Fin 2) (Or.inl (show κ.val < 384 by omega))) ?_
    refine Eq.trans (View.read_writes_cons_unit_of_not_mem arg9.view _ _ _ _ (ix2 r κ) rfl (1 : Fin 2) (Or.inl (show κ.val < 256 by omega))) ?_
    refine Eq.trans (View.read_writes_cons_unit_of_mem arg9.view _ _ _ _ (ix2 r κ) (ix2 r (⟨κ.val - 128, by omega⟩ : Fin 128)) rfl
      (fun a => by fin_cases a; exacts [(Nat.zero_add _).symm, by show κ.val = 128 + (κ.val - 128); omega])) ?_
    refine (scaled1 i _ _ r _).trans ?_
    refine congrArg₂ (· * ·) ?_ ?_
    · exact readAt_at arg4.view X4 _ rfl _ _ (fun a => by fin_cases a; exacts [(Nat.zero_add _).symm, by show κ.val = 128 + (κ.val - 128); omega])
    · exact readAt_at arg5.view X5 _ rfl _ _ (fun a => by fin_cases a; exacts [(Nat.zero_add _).symm, by show 4 * (i 0).val + κ.val / 128 = 0 + (4 * (i 0).val + 1); omega])
  · refine Eq.trans (View.read_writes_cons_unit_of_not_mem arg9.view _ _ _ _ (ix2 r κ) rfl (1 : Fin 2) (Or.inl (show κ.val < 384 by omega))) ?_
    refine Eq.trans (View.read_writes_cons_unit_of_not_mem arg9.view _ _ _ _ (ix2 r κ) rfl (1 : Fin 2) (Or.inl (show κ.val < 256 by omega))) ?_
    refine Eq.trans (View.read_writes_cons_unit_of_not_mem arg9.view _ _ _ _ (ix2 r κ) rfl (1 : Fin 2) (Or.inl (show κ.val < 128 by omega))) ?_
    refine Eq.trans (View.read_writes_cons_unit_of_mem arg9.view _ _ _ _ (ix2 r κ) (ix2 r (⟨κ.val - 0, by omega⟩ : Fin 128)) rfl
      (fun a => by fin_cases a; exacts [(Nat.zero_add _).symm, by show κ.val = 0 + (κ.val - 0); omega])) ?_
    refine (scaled0 i _ _ r _).trans ?_
    refine congrArg₂ (· * ·) ?_ ?_
    · exact readAt_at arg4.view X4 _ rfl _ _ (fun a => by fin_cases a; exacts [(Nat.zero_add _).symm, by show κ.val = 0 + (κ.val - 0); omega])
    · exact readAt_at arg5.view X5 _ rfl _ _ (fun a => by fin_cases a; exacts [(Nat.zero_add _).symm, by show 4 * (i 0).val + κ.val / 128 = 0 + (4 * (i 0).val + 0); omega])

/-- The table, loaded whole. -/
theorem table_read (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (X3 : BufTy.Contents (Elt Ideal) arg3.view.ty) :
    View.readAt (Elt Ideal) arg3.view (Rect.unit ![0, 0] S32x128.size inb_S32x128_S32x128_0_0).toLoadRect X3 = arg3.view.read (Elt Ideal) X3 :=
  funext fun y => readAt_at arg3.view X3 _ rfl y y (fun a => by fin_cases a <;> exact (Nat.zero_add _).symm)

/-- The accumulator the body leaves, in closed form. -/
theorem point_acc (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (G10 : BufTy.Contents (Elt Ideal) arg10.view.ty) (G11 : BufTy.Contents (Elt Ideal) arg11.view.ty) (G12 : BufTy.Contents (Elt Ideal) arg12.view.ty) (G13 : BufTy.Contents (Elt Ideal) arg13.view.ty) (hfirst) :
    arg13.view.read (Elt Ideal) (st2 (F := Ideal) c i arg1 harg1 arg2 harg2 arg3 harg3 arg4 harg4 arg5 harg5 arg6 harg6 arg7 harg7 arg8 harg8 arg9 harg9 arg10 harg10 arg11 harg11 arg12 harg12 arg13 harg13 (View.readAt (Elt Ideal) arg3.view (Rect.unit ![0, 0] S32x128.size inb_S32x128_S32x128_0_0).toLoadRect X3) X6 (arg9.view.writes (Elt Ideal) arg9.view.junk [⟨Rect.unit ![0, 384] S256x128.size inb_S256x512_S256x128_0_384, k0_pay53 (F := Ideal) (k0_pay49 (BitVec.ofNat 32 (i 0).val)) (k0_pay50 (F := Ideal) (BitVec.ofNat 32 (i 0).val) (k0_pay36 (F := Ideal) (View.readAt (Elt Ideal) arg5.view (Rect.unit ![0, 0] S256x256.size inb_S256x256_S256x256_0_0).toLoadRect X5)) (k0_pay37 (F := Ideal) (View.readAt (Elt Ideal) arg5.view (Rect.unit ![0, 0] S256x256.size inb_S256x256_S256x256_0_0).toLoadRect X5))) (k0_pay51 (BitVec.ofNat 32 (i 0).val)) (k0_pay52 (BitVec.ofNat 32 (i 0).val)) (View.readAt (Elt Ideal) arg4.view (Rect.unit (s := S256x512) ![0, 384] S256x128.size inb_S256x512_S256x128_0_384).toLoadRect X4)⟩, ⟨Rect.unit ![0, 256] S256x128.size inb_S256x512_S256x128_0_256, k0_pay48 (F := Ideal) (k0_pay45 (BitVec.ofNat 32 (i 0).val)) (k0_pay46 (F := Ideal) (BitVec.ofNat 32 (i 0).val) (k0_pay36 (F := Ideal) (View.readAt (Elt Ideal) arg5.view (Rect.unit ![0, 0] S256x256.size inb_S256x256_S256x256_0_0).toLoadRect X5)) (k0_pay37 (F := Ideal) (View.readAt (Elt Ideal) arg5.view (Rect.unit ![0, 0] S256x256.size inb_S256x256_S256x256_0_0).toLoadRect X5))) (k0_pay47 (BitVec.ofNat 32 (i 0).val)) 128#32 (View.readAt (Elt Ideal) arg4.view (Rect.unit (s := S256x512) ![0, 256] S256x128.size inb_S256x512_S256x128_0_256).toLoadRect X4)⟩, ⟨Rect.unit ![0, 128] S256x128.size inb_S256x512_S256x128_0_128, k0_pay44 (F := Ideal) (k0_pay41 (BitVec.ofNat 32 (i 0).val)) (k0_pay42 (F := Ideal) (BitVec.ofNat 32 (i 0).val) (k0_pay36 (F := Ideal) (View.readAt (Elt Ideal) arg5.view (Rect.unit ![0, 0] S256x256.size inb_S256x256_S256x256_0_0).toLoadRect X5)) (k0_pay37 (F := Ideal) (View.readAt (Elt Ideal) arg5.view (Rect.unit ![0, 0] S256x256.size inb_S256x256_S256x256_0_0).toLoadRect X5))) k0_pay43 (View.readAt (Elt Ideal) arg4.view (Rect.unit (s := S256x512) ![0, 128] S256x128.size inb_S256x512_S256x128_0_128).toLoadRect X4)⟩, ⟨Rect.unit ![0, 0] S256x128.size inb_S256x512_S256x128_0_0, k0_pay40 (F := Ideal) (k0_pay38 i) (k0_pay39 (F := Ideal) i (View.readAt (Elt Ideal) arg5.view (Rect.unit ![0, 0] S256x256.size inb_S256x256_S256x256_0_0).toLoadRect X5)) (View.readAt (Elt Ideal) arg4.view (Rect.unit (s := S256x512) ![0, 0] S256x128.size inb_S256x512_S256x128_0_0).toLoadRect X4)⟩]) (arg10.view.writes (Elt Ideal) G10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 (BitVec.ofNat 32 (i 0).val) (View.readAt (Elt Ideal) arg2.view (Rect.unit ![0] S1.size inb_S1_S1_0).toLoadRect X2 (Shape.Idx.first hfirst)) X1 X7 k0_t1_loop.trips)) G11 G12 G13 k0_t2_loop.trips).2.2
      = stepAcc (point i) (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg13.view.read (Elt Ideal) G13) := by
  funext y
  obtain ⟨h, r, p, rfl⟩ : ∃ h r p, y = ix3 h r p := ⟨y 0, y 1, y 2, by funext a; fin_cases a <;> rfl⟩
  refine (st2_acc c i arg1 harg1 arg2 harg2 arg3 harg3 arg4 harg4 arg5 harg5 arg6 harg6 arg7 harg7 arg8 harg8 arg9 harg9 arg10 harg10 arg11 harg11 arg12 harg12 arg13 harg13 _ X6 _ _ G11 G12 G13 h r p _ (Nat.le_refl _)).trans ?_
  rw [if_pos (by have := p.isLt; rw [trips2]; omega)]
  unfold stepAcc
  refine congrArg (_ + ·) (Finset.sum_congr rfl fun κ _ => ?_)
  refine congrArg₂ (· * ·) (codes_read i arg1 harg1 arg2 harg2 arg3 harg3 arg4 harg4 arg5 harg5 arg6 harg6 arg7 harg7 arg8 harg8 arg9 harg9 arg10 harg10 arg11 harg11 arg12 harg12 arg13 harg13 X4 X5 _ r κ) ?_
  unfold weight weightAt
  refine congrArg₂ (· * ·) ?_ ?_
  · rw [table_read i arg1 harg1 arg2 harg2 arg3 harg3 arg4 harg4 arg5 harg5 arg6 harg6 arg7 harg7 arg8 harg8 arg9 harg9 arg10 harg10 arg11 harg11 arg12 harg12 arg13 harg13 X3]; rfl
  · refine (trips_read10 c i arg1 harg1 arg2 harg2 arg3 harg3 arg4 harg4 arg5 harg5 arg6 harg6 arg7 harg7 arg8 harg8 arg9 harg9 arg10 harg10 arg11 harg11 arg12 harg12 arg13 harg13 _ _ X1 X7 G10 _ _ _ (by show p.val / 32 < 80; omega) _ (Nat.le_refl _)).trans ?_
    rw [if_pos (by show κ.val / 2 < _; rw [trips1]; omega)]
    have hκ : (⟨2 * (κ.val / 2) + κ.val % 2, by omega⟩ : Fin 512) = κ := Fin.ext (by show 2 * (κ.val / 2) + κ.val % 2 = κ.val; omega)
    have hv : View.readAt (Elt Ideal) arg2.view (Rect.unit ![0] S1.size inb_S1_S1_0).toLoadRect X2 (Shape.Idx.first hfirst) = arg2.view.read (Elt Ideal) X2 (ix1 (0 : Fin 1)) :=
      readAt_at arg2.view X2 _ rfl _ _ (fun a => by fin_cases a; rfl)
    show blockScale (point i) _ _ _ (⟨2 * (κ.val / 2) + κ.val % 2, by omega⟩ : Fin 512) _ = _
    rw [hκ, hv]
    rfl

/-- The accumulator cleared, read back. -/
theorem zero_read (arg13 : Memref sig .tc .vmem S2x256x2560 .f32) (G : BufTy.Contents (Elt Ideal) arg13.view.ty) :
    arg13.view.read (Elt Ideal) (arg13.view.writes (Elt Ideal) G [⟨Rect.unit ![0, 0, 0] S2x256x2560.size inb_S2x256x2560_S2x256x2560_0_0_0, k0_pay32 (F := Ideal)⟩]) = zeroAcc := by
  funext y
  refine Eq.trans (View.read_writes_cons_unit_of_mem arg13.view G _ _ _ y y rfl (fun a => by fin_cases a <;> exact (Nat.zero_add _).symm)) ?_
  unfold zeroAcc
  pointwise [k0_pay32]

/-- The result the last point writes, in closed form. -/
theorem out_read (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (hl : k0_cond2 i = 1#1) (c0 : BitVec 32) (X13 : BufTy.Contents (Elt Ideal) arg13.view.ty) (G : BufTy.Contents (Elt Ideal) arg8.view.ty) :
    arg8.view.read (Elt Ideal) (arg8.view.writes (Elt Ideal) G (pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 hl k0_pay30 k0_pay31 c0 X13 k0_t5_loop.trips))
      = outOf (arg13.view.read (Elt Ideal) X13) := by
  funext y
  obtain ⟨r, n, rfl⟩ : ∃ r n, y = ix2 r n := ⟨y 0, y 1, by funext a; fin_cases a <;> rfl⟩
  refine (trips_read8 c i arg1 harg1 arg2 harg2 arg3 harg3 arg4 harg4 arg5 harg5 arg6 harg6 arg7 harg7 arg8 harg8 arg9 harg9 arg10 harg10 arg11 harg11 arg12 harg12 arg13 harg13 hl c0 X13 G r n _ (Nat.le_refl _)).trans ?_
  rw [if_pos (by have := n.isLt; rw [trips5]; omega)]
  rfl

end Cert.KernelIdeal.Val

end
-- ==== Proof.KernelIdealExact.lean ====
/- The whole body at one grid point, with the values it leaves: the accumulator a step further, and at the last point the result. -/
module

public import proofs.«01_k».proof.Proof.KernelIdealPoint
public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The condition of the first grid point, from the grid coordinates. -/
abbrev first (i : grid0.Coords) : Prop := (Scalar.cmpi .ne (Scalar.extui (Scalar.cmpi .eq (BitVec.ofNat 32 (i 0).val) 0#32)) 0#32) = 1#1
/-- The condition of the last grid point. -/
abbrev last (i : grid0.Coords) : Prop := k0_cond2 i = 1#1

set_option maxHeartbeats 4000000 in
/-- The body at the first point: the accumulator is cleared and takes the point's products. -/
theorem runA (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (hc0 : first i) (hc1 : ¬ last i) (x0 : Vec Ideal S8640 .f32) (x1 : Vec Ideal S1 .f32) (x2 : Vec Ideal S32x128 .i8) (x3 : Vec Ideal S256x512 .fp8e4m3) (x4 : Vec Ideal S256x256 .f32) (x5 : Vec Ideal S512x2560 .i8) (x6 : Vec Ideal S512x80 .i8) (x7 : Vec Ideal S256x5120 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare (stepAcc (point i) x0 x1 x2 x3 x4 x5 x6 zeroAcc)) -∗ K ⟨⟩))
      ⊢ wp frame (wpE (defs₀ (F := Ideal)) Variants.none c none) Set.univ (cc0_nf4_dx i arg1 harg1 arg2 harg2 arg3 harg3 arg4 harg4 arg5 harg5 arg6 harg6 arg7 harg7 arg8 harg8 arg9 harg9 arg10 harg10 arg11 harg11 arg12 harg12 arg13 harg13) K := by
  simp only [cc0_nf4_dx_eq_skeleton]; unfold cc0_nf4_dx_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  subst hf1 hf2 hf3 hf4 hf5 hf6 hf7
  sl_exec (disch := first | sl_exact hc0 | sl_exact hc1)
  generalize hG : arg13.view.writes (Elt Ideal) arg13.view.junk runA.sl.H13_1 = G13
  sl_exec (disch := first | sl_exact hc0 | sl_exact hc1)
  subst hG
  sl_step
  sl_unfold_run_names
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; swap; · iexact H8
    ipureintro; exact hf8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _; isplitr; swap; · iexact H13
  ipureintro
  exact (point_acc c i arg1 harg1 arg2 harg2 arg3 harg3 arg4 harg4 arg5 harg5 arg6 harg6 arg7 harg7 arg8 harg8 arg9 harg9 arg10 harg10 arg11 harg11 arg12 harg12 arg13 harg13 _ _ _ _ _ _ _ _ _ _ _ _).trans (congrArg (stepAcc _ _ _ _ _ _ _ _) (zero_read arg13 _))

set_option maxHeartbeats 4000000 in
/-- The body at a point that is neither the first nor the last: the accumulator takes the point's products. -/
theorem runB (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (hc0 : ¬ first i) (hc1 : ¬ last i) (x0 : Vec Ideal S8640 .f32) (x1 : Vec Ideal S1 .f32) (x2 : Vec Ideal S32x128 .i8) (x3 : Vec Ideal S256x512 .fp8e4m3) (x4 : Vec Ideal S256x256 .f32) (x5 : Vec Ideal S512x2560 .i8) (x6 : Vec Ideal S512x80 .i8) (x7 : Vec Ideal S256x5120 .bf16) (a : Vec Ideal S2x256x2560 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare (stepAcc (point i) x0 x1 x2 x3 x4 x5 x6 a)) -∗ K ⟨⟩))
      ⊢ wp frame (wpE (defs₀ (F := Ideal)) Variants.none c none) Set.univ (cc0_nf4_dx i arg1 harg1 arg2 harg2 arg3 harg3 arg4 harg4 arg5 harg5 arg6 harg6 arg7 harg7 arg8 harg8 arg9 harg9 arg10 harg10 arg11 harg11 arg12 harg12 arg13 harg13) K := by
  simp only [cc0_nf4_dx_eq_skeleton]; unfold cc0_nf4_dx_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, Hk⟩
  subst hf1 hf2 hf3 hf4 hf5 hf6 hf7 hf13
  sl_exec (disch := first | sl_exact hc0 | sl_exact hc1)
  sl_step
  sl_unfold_run_names
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; swap; · iexact H8
    ipureintro; exact hf8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _; isplitr; swap; · iexact H13
  ipureintro
  exact point_acc c i arg1 harg1 arg2 harg2 arg3 harg3 arg4 harg4 arg5 harg5 arg6 harg6 arg7 harg7 arg8 harg8 arg9 harg9 arg10 harg10 arg11 harg11 arg12 harg12 arg13 harg13 _ _ _ _ _ _ _ _ _ _ _ _

set_option maxHeartbeats 4000000 in
/-- The body at the last point: the accumulator takes the point's products and the result is written. -/
theorem runC (c : Dev nD) (i : grid0.Coords) (arg1 : Memref sig .tc .smem S8640 .f32) (harg1 : arg1.IsWhole) (arg2 : Memref sig .tc .smem S1 .f32) (harg2 : arg2.IsWhole) (arg3 : Memref sig .tc .vmem S32x128 .i8) (harg3 : arg3.IsWhole) (arg4 : Memref sig .tc .vmem S256x512 .fp8e4m3) (harg4 : arg4.IsWhole) (arg5 : Memref sig .tc .vmem S256x256 .f32) (harg5 : arg5.IsWhole) (arg6 : Memref sig .tc .vmem S512x2560 .i8) (harg6 : arg6.IsWhole) (arg7 : Memref sig .tc .vmem S512x80 .i8) (harg7 : arg7.IsWhole) (arg8 : Memref sig .tc .vmem S256x5120 .bf16) (harg8 : arg8.IsWhole) (arg9 : Memref sig .tc .vmem S256x512 .bf16) (harg9 : arg9.IsWhole) (arg10 : Memref sig .tc .vmem S256x2x128 .bf16) (harg10 : arg10.IsWhole) (arg11 : Memref sig .tc .vmem S2x512x256 .bf16) (harg11 : arg11.IsWhole) (arg12 : Memref sig .tc .vmem S2x512x256 .bf16) (harg12 : arg12.IsWhole) (arg13 : Memref sig .tc .vmem S2x256x2560 .f32) (harg13 : arg13.IsWhole) (hc0 : ¬ first i) (hc1 : last i) (x0 : Vec Ideal S8640 .f32) (x1 : Vec Ideal S1 .f32) (x2 : Vec Ideal S32x128 .i8) (x3 : Vec Ideal S256x512 .fp8e4m3) (x4 : Vec Ideal S256x256 .f32) (x5 : Vec Ideal S512x2560 .i8) (x6 : Vec Ideal S512x80 .i8) (a : Vec Ideal S2x256x2560 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outOf (stepAcc (point i) x0 x1 x2 x3 x4 x5 x6 a)) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare (stepAcc (point i) x0 x1 x2 x3 x4 x5 x6 a)) -∗ K ⟨⟩))
      ⊢ wp frame (wpE (defs₀ (F := Ideal)) Variants.none c none) Set.univ (cc0_nf4_dx i arg1 harg1 arg2 harg2 arg3 harg3 arg4 harg4 arg5 harg5 arg6 harg6 arg7 harg7 arg8 harg8 arg9 harg9 arg10 harg10 arg11 harg11 arg12 harg12 arg13 harg13) K := by
  simp only [cc0_nf4_dx_eq_skeleton]; unfold cc0_nf4_dx_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, Hk⟩
  subst hf1 hf2 hf3 hf4 hf5 hf6 hf7 hf13
  sl_exec (disch := first | sl_exact hc0 | sl_exact hc1)
  sl_step
  sl_unfold_run_names
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; swap; · iexact H8
    ipureintro
    exact (out_read c i arg1 harg1 arg2 harg2 arg3 harg3 arg4 harg4 arg5 harg5 arg6 harg6 arg7 harg7 arg8 harg8 arg9 harg9 arg10 harg10 arg11 harg11 arg12 harg12 arg13 harg13 hc1 _ _ _).trans (congrArg outOf (point_acc c i arg1 harg1 arg2 harg2 arg3 harg3 arg4 harg4 arg5 harg5 arg6 harg6 arg7 harg7 arg8 harg8 arg9 harg9 arg10 harg10 arg11 harg11 arg12 harg12 arg13 harg13 _ _ _ _ _ _ _ _ _ _ _ _))
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _; isplitr; swap; · iexact H13
  ipureintro
  exact point_acc c i arg1 harg1 arg2 harg2 arg3 harg3 arg4 harg4 arg5 harg5 arg6 harg6 arg7 harg7 arg8 harg8 arg9 harg9 arg10 harg10 arg11 harg11 arg12 harg12 arg13 harg13 _ _ _ _ _ _ _ _ _ _ _ _

end Cert.KernelIdeal.Val

end
-- ==== Proof.KernelIdealData.lean ====
/- The kernel's run with its values: the accumulator is carried from point to point, and the result array is what the last point
   writes. -/
module

public import proofs.«01_k».proof.Proof.KernelIdealExact
public import proofs.«01_k».proof.Proof.KernelIdealFrame
public import Idealize.ShloMosaic.Lib.Pipeline.Value

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.KernelIdeal.Hand (ms0 ms1 ms2 ms3 ms4 ms5 ms6 ms7 sc0 sc1 sc2 sc3 sc4 hcond0 hcond1)

variable (m : (ℓ : Loc nD τ sig) → Buf (Elt Ideal) ℓ) (ρ : Dev nD → PrngReg)

/-- The accumulator before point `n`. -/
def accAt (c : Dev nD) : ℕ → Vec Ideal S2x256x2560 .f32
  | 0 => zeroAcc
  | n + 1 => if h : n < cfg0.N then stepAcc (point (grid0.coords ⟨n, h⟩)) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (accAt c n) else accAt c n

/-- The accumulator after point `t`, from the one before it. -/
theorem accAt_succ (c : Dev nD) (t : Fin cfg0.N) :
    accAt m c (t.val + 1) = stepAcc (point (grid0.coords t)) (iblk m c 0 t) (iblk m c 1 t) (iblk m c 2 t) (iblk m c 3 t) (iblk m c 4 t) (iblk m c 5 t) (iblk m c 6 t) (accAt m c t.val) := by
  rw [accAt, dif_pos t.isLt]

/-- What is held between points: the scratch buffers, the accumulator at its value once a point has run. -/
def held (c : Dev nD) : ℕ → sProp 𝕄
  | 0 => Pipeline.ΦA spec0 c
  | n + 1 => iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ owns (c : Thread nD τ) sc4 fullShare (accAt m c (n + 1))) ∗ (∃ r, prngReg c r))

/-- What is held once a point has run. -/
theorem held_pos (c : Dev nD) (n : ℕ) (h : n ≠ 0) :
    held m c n = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ owns (c : Thread nD τ) sc4 fullShare (accAt m c n)) ∗ (∃ r, prngReg c r)) := by
  cases n with
  | zero => exact absurd rfl h
  | succ n => rfl

/-- What is known at each point: an input window holds its block; the result window, where it is written, the interleaved accumulators. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outOf (accAt m c (t.val + 1))
  Φ t := held m c t.val
  q _ := fullShare
  owed _ := 0

/-- Each window starts from its array at the start of the call. -/
theorem A_eq (c : Dev nD) (w : Fin cfg0.W) : (dats m 0 c).A w = V m c (Pipeline.arrRef spec0 w) := by
  dsimp only [dats]

/-- After a point, window 0 holds what `dats` says. -/
theorem after_0 (c : Dev nD) (t : Fin cfg0.N) : (dats m 0 c).after 0 t = iblk m c 0 t := by dsimp only [dats]
/-- Before a point, window 0 holds its block. -/
theorem before_0 (c : Dev nD) (t : Fin cfg0.N) (d) : (dats m 0 c).before 0 t d = iblk m c 0 t :=
  before0_0_of m (dats m 0 c) (A_eq m c 0) (after_0 m c) t d
/-- Window 0 is used at every point. -/
theorem live_0 : ∀ t : Fin cfg0.N, cfg0.idle 0 (grid0.coords t) = false := fun _ => rfl
/-- After a point, window 1 holds what `dats` says. -/
theorem after_1 (c : Dev nD) (t : Fin cfg0.N) : (dats m 0 c).after 1 t = iblk m c 1 t := by dsimp only [dats]
/-- Before a point, window 1 holds its block. -/
theorem before_1 (c : Dev nD) (t : Fin cfg0.N) (d) : (dats m 0 c).before 1 t d = iblk m c 1 t :=
  before0_1_of m (dats m 0 c) (A_eq m c 1) (after_1 m c) t d
/-- Window 1 is used at every point. -/
theorem live_1 : ∀ t : Fin cfg0.N, cfg0.idle 1 (grid0.coords t) = false := fun _ => rfl
/-- After a point, window 2 holds what `dats` says. -/
theorem after_2 (c : Dev nD) (t : Fin cfg0.N) : (dats m 0 c).after 2 t = iblk m c 2 t := by dsimp only [dats]
/-- Before a point, window 2 holds its block. -/
theorem before_2 (c : Dev nD) (t : Fin cfg0.N) (d) : (dats m 0 c).before 2 t d = iblk m c 2 t :=
  before0_2_of m (dats m 0 c) (A_eq m c 2) (after_2 m c) t d
/-- Window 2 is used at every point. -/
theorem live_2 : ∀ t : Fin cfg0.N, cfg0.idle 2 (grid0.coords t) = false := fun _ => rfl
/-- After a point, window 3 holds what `dats` says. -/
theorem after_3 (c : Dev nD) (t : Fin cfg0.N) : (dats m 0 c).after 3 t = iblk m c 3 t := by dsimp only [dats]
/-- Before a point, window 3 holds its block. -/
theorem before_3 (c : Dev nD) (t : Fin cfg0.N) (d) : (dats m 0 c).before 3 t d = iblk m c 3 t :=
  before0_3_of m (dats m 0 c) (A_eq m c 3) (after_3 m c) t d
/-- Window 3 is used at every point. -/
theorem live_3 : ∀ t : Fin cfg0.N, cfg0.idle 3 (grid0.coords t) = false := fun _ => rfl
/-- After a point, window 4 holds what `dats` says. -/
theorem after_4 (c : Dev nD) (t : Fin cfg0.N) : (dats m 0 c).after 4 t = iblk m c 4 t := by dsimp only [dats]
/-- Before a point, window 4 holds its block. -/
theorem before_4 (c : Dev nD) (t : Fin cfg0.N) (d) : (dats m 0 c).before 4 t d = iblk m c 4 t :=
  before0_4_of m (dats m 0 c) (A_eq m c 4) (after_4 m c) t d
/-- Window 4 is used at every point. -/
theorem live_4 : ∀ t : Fin cfg0.N, cfg0.idle 4 (grid0.coords t) = false := fun _ => rfl
/-- After a point, window 5 holds what `dats` says. -/
theorem after_5 (c : Dev nD) (t : Fin cfg0.N) : (dats m 0 c).after 5 t = iblk m c 5 t := by dsimp only [dats]
/-- Before a point, window 5 holds its block. -/
theorem before_5 (c : Dev nD) (t : Fin cfg0.N) (d) : (dats m 0 c).before 5 t d = iblk m c 5 t :=
  before0_5_of m (dats m 0 c) (A_eq m c 5) (after_5 m c) t d
/-- Window 5 is used at every point. -/
theorem live_5 : ∀ t : Fin cfg0.N, cfg0.idle 5 (grid0.coords t) = false := fun _ => rfl
/-- After a point, window 6 holds what `dats` says. -/
theorem after_6 (c : Dev nD) (t : Fin cfg0.N) : (dats m 0 c).after 6 t = iblk m c 6 t := by dsimp only [dats]
/-- Before a point, window 6 holds its block. -/
theorem before_6 (c : Dev nD) (t : Fin cfg0.N) (d) : (dats m 0 c).before 6 t d = iblk m c 6 t :=
  before0_6_of m (dats m 0 c) (A_eq m c 6) (after_6 m c) t d
/-- Window 6 is used at every point. -/
theorem live_6 : ∀ t : Fin cfg0.N, cfg0.idle 6 (grid0.coords t) = false := fun _ => rfl
/-- After a point, window 7 holds what `dats` says. -/
theorem after_7 (c : Dev nD) (t : Fin cfg0.N) : (dats m 0 c).after 7 t = outOf (accAt m c (t.val + 1)) := by dsimp only [dats]
/-- The result window is idle before the last point, -/
theorem idle_7 : ∀ t : Fin cfg0.N, ¬last (grid0.coords t) → cfg0.idle 7 (grid0.coords t) = true := by decide +kernel
/-- is not written back there, -/
theorem noFlush_7 : ∀ t : Fin cfg0.N, ¬last (grid0.coords t) → (cfg0.win 7).flush t = false := by decide +kernel
/-- and is written at the last point. -/
theorem live_7 : ∀ t : Fin cfg0.N, last (grid0.coords t) → cfg0.idle 7 (grid0.coords t) = false := by decide +kernel

/-- What the body is handed at point `t`, -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)))

/-- and what it gives back. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t)

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = held m c (t.val + 1) from rfl, held_pos m c (t.val + 1) (Nat.succ_ne_zero _)]
  rw [show (dats m 0 c).Φ t.castSucc = held m c t.val from rfl]
  have hN : t.val < 54 := lt_of_lt_of_eq t.isLt (show cfg0.N = 54 from N_0)
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  by_cases h0 : t.val % 54 = 0
  · have h1 : ¬ t.val % 54 = 53 := by omega
    rw [Dat.leavesExact_idle (dats m 0 c) 7 t (idle_7 t (fun h => h1 ((hcond1 t).mp h))) (noFlush_7 t (fun h => h1 ((hcond1 t).mp h)))]
    rw [accAt_succ]
    rw [show t.val = 0 by omega, show held m c 0 = Pipeline.ΦA spec0 c from rfl, Hand.PhiA_eq, show accAt m c 0 = zeroAcc from rfl]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA c (grid0.coords t) _ _ _ _ _ _ _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val % 54 = 53
    · rw [show (dats m 0 c).leavesExact 7 t = owns (c : Thread nD τ) (ms7 t) fullShare ((dats m 0 c).after 7 t) from by
        unfold Dat.leavesExact; rw [live_7 t ((hcond1 t).mpr h1)], after_7]
      rw [accAt_succ]
      rw [held_pos m c t.val (by omega)]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runC c (grid0.coords t) _ _ _ _ _ _ _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) (iblk m c 6 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dats m 0 c) 7 t (idle_7 t (fun h => h1 ((hcond1 t).mp h))) (noFlush_7 t (fun h => h1 ((hcond1 t).mp h)))]
      rw [accAt_succ]
      rw [held_pos m c t.val (by omega)]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runB c (grid0.coords t) _ _ _ _ _ _ _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) (iblk m c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body's triple as the pipeline asks for it. -/
theorem body_obligation (c : Dev nD) : BodyObligation (dats m 0 c) (defs₀ (F := Ideal)) Variants.none () Set.univ := fun t => by
  rw [bigSep_W0, bigSep_W0, Hand.defs₀_row]
  exact triple_restated (sound_body m c t) rfl .rfl fun _ => .rfl

/-- What is held at the start of the call is what the call hands over. -/
theorem hin (c : Dev nD) : Pipeline.ΦA spec0 c ⊢ (dats m 0 c).Φ 0 := Idealize.SL.BI.Entails.refl _

/-- After the last point the accumulator's value is forgotten. -/
theorem hout (c : Dev nD) : (dats m 0 c).Φ (Fin.last cfg0.N) ⊢ Pipeline.ΦA spec0 c := by
  rw [show (dats m 0 c).Φ (Fin.last cfg0.N) = held m c cfg0.N from rfl, held_pos m c _ (by rw [show cfg0.N = 54 from N_0]; decide), Hand.PhiA_eq]
  iintro ⟨⟨HS0, HS1, HS2, HS3, HS4⟩, Hg⟩
  isplitl [HS0 HS1 HS2 HS3 HS4]
  · isplitl [HS0]; · iexact HS0
    isplitl [HS1]; · iexact HS1
    isplitl [HS2]; · iexact HS2
    isplitl [HS3]; · iexact HS3
    iexists _; iexact HS4
  iexact Hg

set_option backward.isDefEq.respectTransparency.types false in
/-- The whole program runs; at the end its arrays are as the points left them. -/
theorem run_main : θ_run defs (onTc (τ := τ) (main (F := Ideal))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The result array at the end, and the arguments unchanged. -/
theorem run_value : θ_run defs (onTc (τ := τ) (main (F := Ideal))) ⟨m, fun _ => 0, ρ⟩ fun r => ∀ c : Dev nD,
      r.2.mem ((c : Thread nD τ).loc main_v3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r hr c => ⟨(hr.1 c).1 7,
      (((hr.1 c).2 main_arg0 (Pipeline.mem_restRefs_of main_arg0 (by decide) (by decide))).trans (V_main_arg0 m c)),
      (((hr.1 c).2 main_arg1 (Pipeline.mem_restRefs_of main_arg1 (by decide) (by decide))).trans (V_main_arg1 m c)),
      ((hr.1 c).1 5).trans (((dats m 0 c).arrAt_in 5 rfl _).trans ((A_eq m c 5).trans (V_main_arg2 m c))),
      ((hr.1 c).1 6).trans (((dats m 0 c).arrAt_in 6 rfl _).trans ((A_eq m c 6).trans (V_main_arg3 m c))),
      ((hr.1 c).1 0).trans (((dats m 0 c).arrAt_in 0 rfl _).trans ((A_eq m c 0).trans (V_main_arg4 m c))),
      ((hr.1 c).1 1).trans (((dats m 0 c).arrAt_in 1 rfl _).trans ((A_eq m c 1).trans (V_main_arg5 m c)))⟩) (run_main m ρ)

end Cert.KernelIdeal.Val

end
-- ==== Proof.Closed.lean ====
/- The product both programs compute, as one formula on plain coordinates: a row of scaled codes times a column of decoded weights. -/
module

public import Idealize.ShloMosaic.Lib.Pipeline.ValueKit

@[expose] public section

noncomputable section

namespace Cert.Product

open Idealize.ShloMosaic

/-- The sixteen levels of the four-bit format, as `bf16` words. -/
def level (n : Fin 16) : BitVec 16 :=
  (![0xBF80#16, 0xBF32#16, 0xBF06#16, 0xBECA#16, 0xBE92#16, 0xBE3D#16, 0xBDBA#16, 0x0000#16,
     0x3DA3#16, 0x3E25#16, 0x3E7C#16, 0x3EAD#16, 0x3EE2#16, 0x3F10#16, 0x3F39#16, 0x3F80#16] : Fin 16 → BitVec 16) n

/-- The code in half `h` of a byte: half 0 is the low one. -/
def code (h : Fin 2) (b : BitVec 8) : Fin 16 :=
  if h.val = 0 then ⟨b.toNat % 16, by omega⟩ else ⟨b.toNat / 16, by omega⟩

/-- The decoded weight in half `h` of the byte at row `o` and column `p`: its level times the scale of its block of 32, which is a
    byte times the scale of its group of 256 plus the offset. -/
def weight (B : Fin 27648 → Fin 2560 → BitVec 8) (Q : Fin 27648 → Fin 80 → BitVec 8) (A : Fin 8640 → EReal) (z : EReal)
    (h : Fin 2) (o : Fin 27648) (p : Fin 2560) : EReal :=
  FloatOps.ofBits (F := Ideal) .bf16 (level (code h (B o p)))
    * (FloatOps.sitofp (F := Ideal) FTy.f32 (Q o (⟨p.val / 32, by omega⟩ : Fin 80)) * A (⟨(o.val * 80 + p.val / 32) / 256, by omega⟩ : Fin 8640) + z)

/-- One product of the contraction: the scaled code at row `r` and index `o`, times the weight there. -/
def term (X : Fin 256 → Fin 27648 → EReal) (S : Fin 256 → Fin 216 → EReal) (B : Fin 27648 → Fin 2560 → BitVec 8)
    (Q : Fin 27648 → Fin 80 → BitVec 8) (A : Fin 8640 → EReal) (z : EReal) (h : Fin 2) (r : Fin 256) (p : Fin 2560) (o : Fin 27648) : EReal :=
  X r o * S r (⟨o.val / 128, by omega⟩ : Fin 216) * weight B Q A z h o p

/-- The result at row `r` and column `n`: even columns take the low halves, odd columns the high ones. -/
def result (X : Fin 256 → Fin 27648 → EReal) (S : Fin 256 → Fin 216 → EReal) (B : Fin 27648 → Fin 2560 → BitVec 8)
    (Q : Fin 27648 → Fin 80 → BitVec 8) (A : Fin 8640 → EReal) (z : EReal) (r : Fin 256) (n : Fin 5120) : EReal :=
  ∑ o : Fin 27648, term X S B Q A z (⟨n.val % 2, by omega⟩ : Fin 2) r (⟨n.val / 2, by omega⟩ : Fin 2560) o

/-- A sum over 54 stretches of 512, taken one stretch at a time from zero, is the sum over all of the 27648 indices. -/
theorem sum_stretches (a : ℕ → EReal) (f : Fin 27648 → EReal) (h0 : a 0 = 0)
    (hs : ∀ t : Fin 54, a (t.val + 1) = a t.val + ∑ κ : Fin 512, f ⟨512 * t.val + κ.val, by omega⟩) : a 54 = ∑ o : Fin 27648, f o := by
  have key : ∀ n : ℕ, n ≤ 54 → a n = ∑ s ∈ Finset.range (512 * n), (if h : s < 27648 then f ⟨s, h⟩ else 0) := by
    intro n
    induction n with
    | zero => intro _; simpa using h0
    | succ n ih =>
      intro hn
      rw [hs ⟨n, by omega⟩, Nat.mul_succ, Finset.sum_range_add]
      refine congrArg₂ (· + ·) (ih (by omega)) ?_
      rw [Finset.sum_range]
      refine Finset.sum_congr rfl fun κ _ => ?_
      rw [dif_pos (show 512 * n + κ.val < 27648 by omega)]
  rw [key 54 le_rfl, show 512 * 54 = 27648 from rfl, Finset.sum_range]
  refine Finset.sum_congr rfl fun o _ => ?_
  rw [dif_pos o.isLt]

end Cert.Product

end
-- ==== Proof.KernelIdealFinal.lean ====
/- The values after the run: each window block as entries of the arguments, and the result array as one product. -/
module

public import proofs.«01_k».proof.Proof.KernelIdealData
public import proofs.«01_k».proof.Proof.Closed
public import Idealize.ShloMosaic.Lib.Pipeline.ValueKit
public import Idealize.ShloMosaic.Lib.Claim

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-- The windows' block indices. -/
theorem idx : ∀ t : Fin cfg0.N, win0_0.index t = ![0] ∧ win0_1.index t = ![0] ∧ win0_2.index t = ![0, 0] ∧ win0_3.index t = ![0, t.val]
    ∧ win0_4.index t = ![0, 0] ∧ win0_5.index t = ![t.val, 0] ∧ win0_6.index t = ![t.val, 0] ∧ win0_7.index t = ![0, 0] ∧ (grid0.coords t 0).val = t.val :=
  (by decide +kernel : ∀ t : Fin grid0.N, _)

/-- The result array is what the last point leaves: the accumulators, interleaved. -/
theorem final (c : Dev nD) : (dats m 0 c).arrAt 7 (cfgs 0).N = outOf (accAt m c 54) := by
  refine (dats m 0 c).arrAt_eq_of_covers 7 _ (by decide +kernel) fun t hf y => ?_
  have ht : t.val = 53 := (by decide +kernel : ∀ t : Fin cfg0.N, (cfg0.win 7).flush t = true → t.val = 53) t hf
  blk_simp
  rw [after_7, ht]
  blk_point [idx t]

/-- The groups' scales reach every point whole. -/
theorem scale_block (c : Dev nD) (t : Fin cfg0.N) (y : S8640.Idx) : (show Vec Ideal S8640 .f32 from iblk m c 0 t) y = m ((c : Thread nD τ).loc main_arg4) y := by
  blk_ext [iblk, V, idx t]

/-- So does the offset. -/
theorem offset_block (c : Dev nD) (t : Fin cfg0.N) (y : S1.Idx) : (show Vec Ideal S1 .f32 from iblk m c 1 t) y = m ((c : Thread nD τ).loc main_arg5) y := by
  blk_ext [iblk, V, idx t]

/-- The codes, as the call receives them: two halves of 128 rows as 256 rows. -/
theorem V_codes (c : Dev nD) : V m c main_v0 = shapeCast S256x27648 (show Vec Ideal S2x128x27648 .fp8e4m3 from m ((c : Thread nD τ).loc main_arg0)) shapeCasts_S2x128x27648_S256x27648 := by
  unfold V; after_results; try rfl

/-- The scales of the codes, as the call receives them: 256 rows of 216, padded to 256. -/
theorem V_scales (c : Dev nD) : V m c main_v2 = pad S256x256 ![0, 0] ![0, 40] ![0, 0] (shapeCast S256x216 (show FVec Ideal S2x128x216 .f32 from m ((c : Thread nD τ).loc main_arg1)) shapeCasts_S2x128x216_S256x216) (sitofp (F := Ideal) .f32 (constantI S_ 32 0#32)) pads_S256x216_S256x256_000_0400 h_S_ := by
  unfold V; after_results; try rfl

/-- The table of levels the call receives. -/
theorem V_table (c : Dev nD) : V m c main_c = fun i => lit0 (S32x128.rowMajor i) := by
  first | (set_option backward.isDefEq.respectTransparency false in (unfold V; after_results; done)) | rfl

/-- The block of codes of point `t`. -/
theorem code_block (c : Dev nD) (t : Fin cfg0.N) (r : Fin 256) (κ : Fin 512) :
    (show Vec Ideal S256x512 .fp8e4m3 from iblk m c 3 t) (ix2 r κ)
      = (show Vec Ideal S2x128x27648 .fp8e4m3 from m ((c : Thread nD τ).loc main_arg0)) (ix3 (⟨r.val / 128, by omega⟩ : Fin 2) (⟨r.val % 128, by omega⟩ : Fin 128) (⟨512 * t.val + κ.val, by have : t.val < 54 := lt_of_lt_of_eq t.isLt N_0; omega⟩ : Fin 27648)) := by
  blk_simp [iblk]
  rw [V_codes m c]
  pointwise
  blk_ext [idx t]

/-- The scales of the codes at point `t`. -/
theorem dyscale_block (c : Dev nD) (t : Fin cfg0.N) (r : Fin 256) (b : Fin 216) :
    (show Vec Ideal S256x256 .f32 from iblk m c 4 t) (ix2 r (⟨b.val, by omega⟩ : Fin 256))
      = (show Vec Ideal S2x128x216 .f32 from m ((c : Thread nD τ).loc main_arg1)) (ix3 (⟨r.val / 128, by omega⟩ : Fin 2) (⟨r.val % 128, by omega⟩ : Fin 128) b) := by
  blk_simp [iblk]
  rw [V_scales m c]
  pointwise
  blk_simp [idx t]
  refine (dif_pos b.isLt).trans ?_
  rfl

/-- The block of weight bytes of point `t`. -/
theorem byte_block (c : Dev nD) (t : Fin cfg0.N) (κ : Fin 512) (p : Fin 2560) :
    (show Vec Ideal S512x2560 .i8 from iblk m c 5 t) (ix2 κ p)
      = (show Vec Ideal S27648x2560 .i8 from m ((c : Thread nD τ).loc main_arg2)) (ix2 (⟨512 * t.val + κ.val, by have : t.val < 54 := lt_of_lt_of_eq t.isLt N_0; omega⟩ : Fin 27648) p) := by
  blk_ext [iblk, V, idx t]

/-- The block of quantized block scales of point `t`. -/
theorem quant_block (c : Dev nD) (t : Fin cfg0.N) (κ : Fin 512) (b : Fin 80) :
    (show Vec Ideal S512x80 .i8 from iblk m c 6 t) (ix2 κ b)
      = (show Vec Ideal S27648x80 .i8 from m ((c : Thread nD τ).loc main_arg3)) (ix2 (⟨512 * t.val + κ.val, by have : t.val < 54 := lt_of_lt_of_eq t.isLt N_0; omega⟩ : Fin 27648) b) := by
  blk_ext [iblk, V, idx t]

/-- The table of levels at point `t`. -/
theorem table_block (c : Dev nD) (t : Fin cfg0.N) (a : Fin 32) (l : Fin 128) :
    (show Vec Ideal S32x128 .i8 from iblk m c 2 t) (ix2 a l) = lit0t (128 * a.val + l.val) := by
  blk_simp [iblk]
  rw [V_table m c]
  refine congrArg lit0t ?_
  refine (Shape.rowMajor_val_two _).trans ?_
  blk_simp [idx t]
  show a.val * 128 + l.val = _
  omega

/-- A row of the table and the row sixteen below hold the two bytes of a level, in every lane. -/
theorem table_words : ∀ n : Fin 16, ∀ l : Fin 128, lit0t (128 * (n.val + 16) + l.val) ++ lit0t (128 * n.val + l.val) = Product.level n := by
  decide +kernel

/-- The number of point `t` is `t`. -/
theorem point_val (t : Fin cfg0.N) : (point (grid0.coords t)).val = t.val := (idx t).2.2.2.2.2.2.2.2

/-- An entry of the table at point `t` is a level. -/
theorem entry_block (c : Dev nD) (t : Fin cfg0.N) (n : Fin 16) (l : Fin 128) :
    entry (iblk m c 2 t) n l = FloatOps.ofBits (F := Ideal) .bf16 (Product.level n) := by
  refine congrArg (FloatOps.ofBits (F := Ideal) .bf16) ?_
  refine Eq.trans ?_ (table_words n l)
  exact congrArg₂ (fun a b : BitVec 8 => a ++ b) (table_block m c t _ l) (table_block m c t _ l)

/-- The arguments at plain coordinates: the codes, -/
def codes (c : Dev nD) (r : Fin 256) (o : Fin 27648) : EReal :=
  (show Vec Ideal S2x128x27648 .fp8e4m3 from m ((c : Thread nD τ).loc main_arg0)) (ix3 (⟨r.val / 128, by omega⟩ : Fin 2) (⟨r.val % 128, by omega⟩ : Fin 128) o)
/-- their scales, -/
def scales (c : Dev nD) (r : Fin 256) (b : Fin 216) : EReal :=
  (show Vec Ideal S2x128x216 .f32 from m ((c : Thread nD τ).loc main_arg1)) (ix3 (⟨r.val / 128, by omega⟩ : Fin 2) (⟨r.val % 128, by omega⟩ : Fin 128) b)
/-- the weight bytes, -/
def bytes (c : Dev nD) (o : Fin 27648) (p : Fin 2560) : BitVec 8 :=
  (show Vec Ideal S27648x2560 .i8 from m ((c : Thread nD τ).loc main_arg2)) (ix2 o p)
/-- the quantized block scales, -/
def quants (c : Dev nD) (o : Fin 27648) (b : Fin 80) : BitVec 8 :=
  (show Vec Ideal S27648x80 .i8 from m ((c : Thread nD τ).loc main_arg3)) (ix2 o b)
/-- the groups' scales, -/
def groups (c : Dev nD) (g : Fin 8640) : EReal :=
  (show Vec Ideal S8640 .f32 from m ((c : Thread nD τ).loc main_arg4)) (ix1 g)
/-- and the offset. -/
def offset (c : Dev nD) : EReal :=
  (show Vec Ideal S1 .f32 from m ((c : Thread nD τ).loc main_arg5)) (ix1 (0 : Fin 1))

/-- One product of point `t` is one product of the contraction. -/
theorem term_point (c : Dev nD) (t : Fin cfg0.N) (ht : t.val < 54) (h : Fin 2) (r : Fin 256) (p : Fin 2560) (κ : Fin 512) :
    codeAt (point (grid0.coords t)) (iblk m c 3 t) (iblk m c 4 t) r κ
      * weightAt (point (grid0.coords t)) (iblk m c 0 t) (iblk m c 1 t) (iblk m c 2 t) (iblk m c 5 t) (iblk m c 6 t) h κ p
    = Product.term (codes m c) (scales m c) (bytes m c) (quants m c) (groups m c) (offset m c) h r p (⟨512 * t.val + κ.val, by omega⟩ : Fin 27648) := by
  have hp := point_val t
  unfold codeAt weightAt Product.term Product.weight blockScale
  refine congrArg₂ (· * ·) (congrArg₂ (· * ·) (code_block m c t r κ) ?_) (congrArg₂ (· * ·) ?_ (congrArg₂ (· + ·) (congrArg₂ (· * ·) ?_ ?_) ?_))
  · refine Eq.trans ?_ (dyscale_block m c t r (⟨(512 * t.val + κ.val) / 128, by omega⟩ : Fin 216))
    refine congrArg (show Vec Ideal S256x256 .f32 from iblk m c 4 t) ?_
    refine congrArg (ix2 r) (Fin.ext ?_)
    show 4 * (point (grid0.coords t)).val + κ.val / 128 = (512 * t.val + κ.val) / 128
    rw [hp]; omega
  · refine (entry_block m c t _ _).trans ?_
    refine congrArg (fun n => FloatOps.ofBits (F := Ideal) .bf16 (Product.level n)) ?_
    refine Eq.trans (congrArg (codeOf h) (byte_block m c t κ p)) ?_
    fin_cases h <;> rfl
  · exact congrArg (FloatOps.sitofp (F := Ideal) FTy.f32) (quant_block m c t κ _)
  · refine (scale_block m c t _).trans ?_
    refine congrArg (show Vec Ideal S8640 .f32 from m ((c : Thread nD τ).loc main_arg4)) ?_
    refine congrArg ix1 (Fin.ext ?_)
    show ((512 * (point (grid0.coords t)).val + κ.val) * 80 + p.val / 32) / 256 = ((512 * t.val + κ.val) * 80 + p.val / 32) / 256
    rw [hp]
  · exact offset_block m c t _

/-- The accumulator after the last point is the whole contraction. -/
theorem acc_value (c : Dev nD) (h : Fin 2) (r : Fin 256) (p : Fin 2560) :
    accAt m c 54 (ix3 h r p) = ∑ o : Fin 27648, Product.term (codes m c) (scales m c) (bytes m c) (quants m c) (groups m c) (offset m c) h r p o := by
  refine Product.sum_stretches (fun n => accAt m c n (ix3 h r p)) _ rfl fun t => ?_
  have ht : t.val < cfg0.N := lt_of_lt_of_eq t.isLt N_0.symm
  refine (congrFun (accAt_succ m c ⟨t.val, ht⟩) (ix3 h r p)).trans ?_
  unfold stepAcc
  refine congrArg (fun s : EReal => accAt m c t.val (ix3 h r p) + s) ?_
  exact Finset.sum_congr rfl fun κ _ => term_point m c ⟨t.val, ht⟩ t.isLt h r p κ

/-- The result array after the run, at row `r` and column `n`. -/
theorem final_value (c : Dev nD) (r : Fin 256) (n : Fin 5120) :
    (show Vec Ideal S256x5120 .bf16 from (dats m 0 c).arrAt 7 (cfgs 0).N) (ix2 r n)
      = Product.result (codes m c) (scales m c) (bytes m c) (quants m c) (groups m c) (offset m c) r n := by
  refine (congrFun (final m c) (ix2 r n)).trans ?_
  exact acc_value m c _ r _

end Cert.KernelIdeal.Val

end
-- ==== Proof.ReferenceIdealFinal.lean ====
/- The value of the reference: the array it returns, at every row and column, is the product. -/
module

public import proofs.«01_k».proof.Proof.Gen.ReferenceIdeal.Value
public import proofs.«01_k».proof.Proof.Gen.ReferenceIdeal.Skeleton
public import proofs.«01_k».proof.Proof.Closed
public import Idealize.ShloMosaic.Lib.Pipeline.ValueKit
public import Idealize.ShloMosaic.Lib.Claim

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.ShloMosaic.Pipeline (Dat)

/-- A choice by four bits among sixteen words. -/
def pick (i0 i1 i2 i3 : BitVec 1) : BitVec 16 :=
  Scalar.select i3
    (Scalar.select i2 (Scalar.select i1 (Scalar.select i0 0x3F80#16 0x3F39#16) (Scalar.select i0 0x3F10#16 0x3EE2#16))
      (Scalar.select i1 (Scalar.select i0 0x3EAD#16 0x3E7C#16) (Scalar.select i0 0x3E25#16 0x3DA3#16)))
    (Scalar.select i2 (Scalar.select i1 (Scalar.select i0 0x0000#16 0xBDBA#16) (Scalar.select i0 0xBE3D#16 0xBE92#16))
      (Scalar.select i1 (Scalar.select i0 0xBECA#16 0xBF06#16) (Scalar.select i0 0xBF32#16 0xBF80#16)))

/-- Choosing among the values of the words is choosing the word. -/
theorem pick_bits (i0 i1 i2 i3 : BitVec 1) :
    Scalar.select i3
    (Scalar.select i2 (Scalar.select i1 (Scalar.select i0 (1 : EReal) (Ideal.ofBits FTy.bf16 0x3F39#16)) (Scalar.select i0 (Ideal.ofBits FTy.bf16 0x3F10#16) (Ideal.ofBits FTy.bf16 0x3EE2#16)))
      (Scalar.select i1 (Scalar.select i0 (Ideal.ofBits FTy.bf16 0x3EAD#16) (Ideal.ofBits FTy.bf16 0x3E7C#16)) (Scalar.select i0 (Ideal.ofBits FTy.bf16 0x3E25#16) (Ideal.ofBits FTy.bf16 0x3DA3#16))))
    (Scalar.select i2 (Scalar.select i1 (Scalar.select i0 (0 : EReal) (Ideal.ofBits FTy.bf16 0xBDBA#16)) (Scalar.select i0 (Ideal.ofBits FTy.bf16 0xBE3D#16) (Ideal.ofBits FTy.bf16 0xBE92#16)))
      (Scalar.select i1 (Scalar.select i0 (Ideal.ofBits FTy.bf16 0xBECA#16) (Ideal.ofBits FTy.bf16 0xBF06#16)) (Scalar.select i0 (Ideal.ofBits FTy.bf16 0xBF32#16) (Ideal.ofBits FTy.bf16 0xBF80#16))))
    = Ideal.ofBits FTy.bf16 (pick i0 i1 i2 i3) := by
  have h1 : Ideal.ofBits FTy.bf16 0x3F80#16 = 1 := by pointwise
  have h0 : Ideal.ofBits FTy.bf16 0x0000#16 = 0 := by pointwise
  rw [← h1, ← h0]
  have h : ∀ i : BitVec 1, i = 0#1 ∨ i = 1#1 := by decide
  rcases h i0 with rfl | rfl <;> rcases h i1 with rfl | rfl <;> rcases h i2 with rfl | rfl <;> rcases h i3 with rfl | rfl <;> rfl

/-- The word the low half of a byte picks is its level. -/
theorem pick_low : ∀ b : BitVec 8,
    pick (IntOp.cmpi CmpIPredicate.ne (IntOp.andi (IntOp.andi (BitVec.setWidth 32 b) 15#32) 1#32) 0#32)
      (IntOp.cmpi CmpIPredicate.ne (IntOp.andi (IntOp.andi (BitVec.setWidth 32 b) 15#32) 2#32) 0#32)
      (IntOp.cmpi CmpIPredicate.ne (IntOp.andi (IntOp.andi (BitVec.setWidth 32 b) 15#32) 4#32) 0#32)
      (IntOp.cmpi CmpIPredicate.ne (IntOp.andi (IntOp.andi (BitVec.setWidth 32 b) 15#32) 8#32) 0#32)
    = Product.level (Product.code 0 b) := by decide +kernel

/-- A scaled code. -/
theorem scaled_at (v0 : Vec Ideal S2x128x27648 .fp8e4m3) (v1 : Vec Ideal S2x128x216 .f32) (a : Fin 2) (s : Fin 128) (o : Fin 27648) :
    k0_pay3 (F := Ideal) v0 v1 (ix3 a s o) = v0 (ix3 a s o) * v1 (ix3 a s (⟨o.val / 128, by omega⟩ : Fin 216)) := by
  pointwise [k0_pay3]

/-- A block's scale. -/
theorem scale_at (v4 : Vec Ideal S27648x80 .i8) (v5 : Vec Ideal S8640 .f32) (v18 : EReal) (o : Fin 27648) (b : Fin 80) :
    k0_pay4 (F := Ideal) v4 v5 v18 (ix2 o b)
      = FloatOps.sitofp (F := Ideal) FTy.f32 (v4 (ix2 o b)) * v5 (ix1 (⟨(o.val * 80 + b.val) / 256, by omega⟩ : Fin 8640)) + v18 := by
  pointwise [k0_pay4]

/-- A weight of the low halves. -/
theorem low_at (v2 : Vec Ideal S27648x2560 .i8) (v22 : FVec Ideal S27648x80 .bf16) (o : Fin 27648) (p : Fin 2560) :
    k0_pay10 (F := Ideal) v22 (k0_pay6 v2) (k0_pay7 v2) (k0_pay8 v2) (k0_pay9 v2) 0#32 (ix2 o p)
      = FloatOps.ofBits (F := Ideal) .bf16 (Product.level (Product.code 0 (v2 (ix2 o p)))) * v22 (ix2 o (⟨p.val / 32, by omega⟩ : Fin 80)) := by
  pointwise [k0_pay10, k0_pay6, k0_pay7, k0_pay8, k0_pay9, k0_pay5, k0_pay2]
  refine congrArg (· * v22 (ix2 o (⟨p.val / 32, by omega⟩ : Fin 80))) ?_
  refine (pick_bits _ _ _ _).trans ?_
  exact congrArg (Ideal.ofBits FTy.bf16) (pick_low _)

/-- The word the high half of a byte picks is its level. -/
theorem pick_high : ∀ b : BitVec 8,
    pick (IntOp.cmpi CmpIPredicate.ne (IntOp.andi (IntOp.shrsi ArithUnit.vector (BitVec.setWidth 32 b) 4#32) 1#32) 0#32)
      (IntOp.cmpi CmpIPredicate.ne (IntOp.andi (IntOp.shrsi ArithUnit.vector (BitVec.setWidth 32 b) 4#32) 2#32) 0#32)
      (IntOp.cmpi CmpIPredicate.ne (IntOp.andi (IntOp.shrsi ArithUnit.vector (BitVec.setWidth 32 b) 4#32) 4#32) 0#32)
      (IntOp.cmpi CmpIPredicate.ne (IntOp.andi (IntOp.shrsi ArithUnit.vector (BitVec.setWidth 32 b) 4#32) 8#32) 0#32)
    = Product.level (Product.code 1 b) := by decide +kernel

/-- The result, at row `r` and column `n`: an even column is the product with the weights given, an odd one the product with the weights of the high halves. -/
theorem out_at (v2 : Vec Ideal S27648x2560 .i8) (v12 : FVec Ideal S2x128x27648 .bf16) (v22 : FVec Ideal S27648x80 .bf16) (v76 : FVec Ideal S27648x2560 .bf16)
    (r : Fin 256) (n : Fin 5120) : k0_pay1 (F := Ideal) v12 v22 v76 (k0_pay13 (k0_pay12 (k0_pay2 v2))) (k0_pay14 (k0_pay11 (k0_pay2 v2))) (k0_pay15 (k0_pay11 (k0_pay2 v2))) (k0_pay16 (k0_pay11 (k0_pay2 v2)))
      (k0_pay17 (F := Ideal) (k0_pay11 (k0_pay2 v2)) (k0_pay12 (k0_pay2 v2))) (k0_pay18 (F := Ideal) (k0_pay11 (k0_pay2 v2)) (k0_pay12 (k0_pay2 v2))) (k0_pay19 (F := Ideal) (k0_pay12 (k0_pay2 v2))) (ix2 r n)
    = if n.val % 2 < 1 then ∑ o : Fin 27648, (show EReal from v12 (ix3 (⟨r.val / 128, by omega⟩ : Fin 2) (⟨r.val % 128, by omega⟩ : Fin 128) o)) * v76 (ix2 o (⟨n.val / 2, by omega⟩ : Fin 2560))
      else ∑ o : Fin 27648, (show EReal from v12 (ix3 (⟨r.val / 128, by omega⟩ : Fin 2) (⟨r.val % 128, by omega⟩ : Fin 128) o))
        * (Ideal.ofBits FTy.bf16 (Product.level (Product.code 1 (v2 (ix2 o (⟨n.val / 2, by omega⟩ : Fin 2560))))) * v22 (ix2 o (⟨n.val / 2 / 32, by omega⟩ : Fin 80))) := by
  have hn : (⟨n.val / 2 / 32 * 32 + n.val / 2 % 32, by omega⟩ : Fin 2560) = ⟨n.val / 2, by omega⟩ := Fin.ext (by show n.val / 2 / 32 * 32 + n.val / 2 % 32 = n.val / 2; omega)
  pointwise [k0_pay1, k0_pay13, k0_pay14, k0_pay15, k0_pay16, k0_pay17, k0_pay18, k0_pay19, k0_pay12, k0_pay11, k0_pay2]
  by_cases h : n.val % 2 < 1
  · rw [dif_pos h, if_pos h]
  rw [dif_neg h, if_neg h]
  refine Finset.sum_congr rfl fun o _ => ?_
  refine congrArg (v12 (ix3 (⟨r.val / 128, by omega⟩ : Fin 2) (⟨r.val % 128, by omega⟩ : Fin 128) o) * ·) ?_
  refine congrArg (· * v22 (ix2 o (⟨n.val / 2 / 32, by omega⟩ : Fin 80))) ?_
  refine (pick_bits _ _ _ _).trans ?_
  refine (congrArg (Ideal.ofBits FTy.bf16) (pick_high _)).trans ?_
  rw [hn]

/-- What the body stores, from the arrays it loads. -/
def stored (v0 : Vec Ideal S2x128x27648 .fp8e4m3) (v1 : Vec Ideal S2x128x216 .f32) (v2 : Vec Ideal S27648x2560 .i8) (v4 : Vec Ideal S27648x80 .i8) (v5 : Vec Ideal S8640 .f32) (v18 : EReal) : Vec Ideal S256x5120 .bf16 :=
  k0_pay1 (F := Ideal) (k0_pay3 v0 v1) (k0_pay4 v4 v5 v18) (k0_pay10 (k0_pay4 v4 v5 v18) (k0_pay6 v2) (k0_pay7 v2) (k0_pay8 v2) (k0_pay9 v2) 0#32) (k0_pay13 (k0_pay12 (k0_pay2 v2))) (k0_pay14 (k0_pay11 (k0_pay2 v2))) (k0_pay15 (k0_pay11 (k0_pay2 v2))) (k0_pay16 (k0_pay11 (k0_pay2 v2)))
      (k0_pay17 (F := Ideal) (k0_pay11 (k0_pay2 v2)) (k0_pay12 (k0_pay2 v2))) (k0_pay18 (F := Ideal) (k0_pay11 (k0_pay2 v2)) (k0_pay12 (k0_pay2 v2))) (k0_pay19 (F := Ideal) (k0_pay12 (k0_pay2 v2)))

/-- It is the product, at every row and column. -/
theorem stored_at (v0 : Vec Ideal S2x128x27648 .fp8e4m3) (v1 : Vec Ideal S2x128x216 .f32) (v2 : Vec Ideal S27648x2560 .i8) (v4 : Vec Ideal S27648x80 .i8) (v5 : Vec Ideal S8640 .f32) (v18 : EReal) (r : Fin 256) (n : Fin 5120) :
    stored v0 v1 v2 v4 v5 v18 (ix2 r n)
      = Product.result (fun r o => v0 (ix3 (⟨r.val / 128, by omega⟩ : Fin 2) (⟨r.val % 128, by omega⟩ : Fin 128) o))
          (fun r b => v1 (ix3 (⟨r.val / 128, by omega⟩ : Fin 2) (⟨r.val % 128, by omega⟩ : Fin 128) b))
          (fun o p => v2 (ix2 o p)) (fun o b => v4 (ix2 o b)) (fun g => v5 (ix1 g)) v18 r n := by
  refine (out_at v2 _ _ _ r n).trans ?_
  unfold Product.result Product.term Product.weight
  by_cases h : n.val % 2 < 1
  · rw [if_pos h]
    have h2 : (⟨n.val % 2, by omega⟩ : Fin 2) = 0 := Fin.ext (by show n.val % 2 = 0; omega)
    rw [h2]
    refine Finset.sum_congr rfl fun o _ => congrArg₂ (· * ·) (scaled_at v0 v1 _ _ o) ?_
    refine (low_at v2 _ o _).trans ?_
    exact congrArg (Ideal.ofBits FTy.bf16 (Product.level (Product.code 0 (v2 (ix2 o (⟨n.val / 2, by omega⟩ : Fin 2560))))) * ·) (scale_at v4 v5 v18 o _)
  · rw [if_neg h]
    have h2 : (⟨n.val % 2, by omega⟩ : Fin 2) = 1 := Fin.ext (by show n.val % 2 = 1; omega)
    rw [h2]
    refine Finset.sum_congr rfl fun o _ => congrArg₂ (· * ·) (scaled_at v0 v1 _ _ o) ?_
    exact congrArg (Ideal.ofBits FTy.bf16 (Product.level (Product.code 1 (v2 (ix2 o (⟨n.val / 2, by omega⟩ : Fin 2560))))) * ·) (scale_at v4 v5 v18 o _)

variable (m : (ℓ : Loc nD τ sig) → Buf (Elt Ideal) ℓ)

/-- The windows are their whole arrays. -/
theorem idx : win0_0.index t0_0 = ![0, 0, 0] ∧ win0_1.index t0_0 = ![0, 0, 0] ∧ win0_2.index t0_0 = ![0, 0] ∧ win0_3.index t0_0 = ![0, 0]
    ∧ win0_4.index t0_0 = ![0] ∧ win0_5.index t0_0 = ![0] ∧ win0_6.index t0_0 = ![0, 0] := by decide +kernel

/-- The array of codes reaches the body whole. -/
theorem block0 (c : Dev nD) : (show Vec Ideal S2x128x27648 .fp8e4m3 from iblk m c 0 t0_0) = m ((c : Thread nD τ).loc main_arg0) := by
  funext y
  blk_ext [iblk, V, idx]

/-- The array of their scales reaches the body whole. -/
theorem block1 (c : Dev nD) : (show Vec Ideal S2x128x216 .f32 from iblk m c 1 t0_0) = m ((c : Thread nD τ).loc main_arg1) := by
  funext y
  blk_ext [iblk, V, idx]

/-- The array of weight bytes reaches the body whole. -/
theorem block2 (c : Dev nD) : (show Vec Ideal S27648x2560 .i8 from iblk m c 2 t0_0) = m ((c : Thread nD τ).loc main_arg2) := by
  funext y
  blk_ext [iblk, V, idx]

/-- The array of quantized block scales reaches the body whole. -/
theorem block3 (c : Dev nD) : (show Vec Ideal S27648x80 .i8 from iblk m c 3 t0_0) = m ((c : Thread nD τ).loc main_arg3) := by
  funext y
  blk_ext [iblk, V, idx]

/-- The array of the groups' scales reaches the body whole. -/
theorem block4 (c : Dev nD) : (show Vec Ideal S8640 .f32 from iblk m c 4 t0_0) = m ((c : Thread nD τ).loc main_arg4) := by
  funext y
  blk_ext [iblk, V, idx]

/-- The offset reaches the body whole. -/
theorem block5 (c : Dev nD) : (show Vec Ideal S1 .f32 from iblk m c 5 t0_0) = m ((c : Thread nD τ).loc main_arg5) := by
  funext y
  blk_ext [iblk, V, idx]

/-- What the body stores depends on what it loads alone. -/
theorem stored_congr {v0 w0 : Vec Ideal S2x128x27648 .fp8e4m3} {v1 w1 : Vec Ideal S2x128x216 .f32} {v2 w2 : Vec Ideal S27648x2560 .i8} {v4 w4 : Vec Ideal S27648x80 .i8} {v5 w5 : Vec Ideal S8640 .f32} {z x : EReal}
    (h0 : v0 = w0) (h1 : v1 = w1) (h2 : v2 = w2) (h4 : v4 = w4) (h5 : v5 = w5) (hz : z = x) (j : S256x5120.Idx) : stored v0 v1 v2 v4 v5 z j = stored w0 w1 w2 w4 w5 x j := by
  subst h0 h1 h2 h4 h5 hz; rfl

/-- The result array after the run is what the body stores. -/
theorem final (c : Dev nD) : (dats m 0 c).arrAt 6 (cfgs 0).N = stored (m ((c : Thread nD τ).loc main_arg0)) (m ((c : Thread nD τ).loc main_arg1)) (m ((c : Thread nD τ).loc main_arg2)) (m ((c : Thread nD τ).loc main_arg3)) (m ((c : Thread nD τ).loc main_arg4))
    ((show Vec Ideal S1 .f32 from m ((c : Thread nD τ).loc main_arg5)) (ix1 (0 : Fin 1))) := by
  refine (dats m 0 c).arrAt_eq_of_after_last 6 t0_0 (by decide +kernel) _ fun j => ?_
  blk_simp
  rw [after0_6]
  unfold outsAt0 out0_A_6
  frame_out
  exact stored_congr (((hs0_0 t0_0).read_unread _).trans (block0 m c)) (((hs0_1 t0_0).read_unread _).trans (block1 m c)) (((hs0_2 t0_0).read_unread _).trans (block2 m c))
    (((hs0_3 t0_0).read_unread _).trans (block3 m c)) (((hs0_4 t0_0).read_unread _).trans (block4 m c))
    ((congrFun (((hs0_5 t0_0).read_unread _).trans (block5 m c)) _).trans (congrArg (show Vec Ideal S1 .f32 from m ((c : Thread nD τ).loc main_arg5)) (funext fun a => by fin_cases a; rfl))) j

end Cert.ReferenceIdeal.Val

end
-- ==== Proof.lean ====
/- The proof of the certificate's claim: the three frames, the rewrites that turn the printed kernel into its form over the
   reals, and the equality of that form with the reference. Proof/KernelFrame.lean and Proof/KernelIdealFrame.lean hold the
   frames of the kernel and of its real form; Proof/KernelIdealFinal.lean and Proof/ReferenceIdealFinal.lean show that the real
   form and the reference each return the product written in Proof/Closed.lean. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.KernelFrame
public import proofs.«01_k».proof.Proof.KernelIdealFrame
public import proofs.«01_k».proof.Proof.KernelIdealFinal
public import proofs.«01_k».proof.Proof.ReferenceIdealFinal
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem

/-- The rewrites that turn the printed kernel into its real form: 32-bit words that hold two bf16 numbers are read as the
    pair of numbers, one statement per shape. -/
theorem preserves : Cert.preserves_Kernel_KernelIdeal :=
  open Cert.KernelIdeal IdealRules.bf16_pair in
  ⟨bufferStatement S256x2x128 S256x1x128, statement S32x128 S16x128, statement S16x2x128 S16x1x128,
    statement S256x256 S128x256, statement S256x128 S128x128, statement S8x2x128 S8x1x128, statement S16x128 S8x128⟩

/-- From equal arguments the two programs return equal arrays: both are the product, at every row and column. -/
theorem values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Gen.dats m' 0 c).arrAt 6 Cert.ReferenceIdeal.cfg0.N = (Cert.KernelIdeal.Val.dats m 0 c).arrAt 7 Cert.KernelIdeal.cfg0.N := by
  refine (Cert.ReferenceIdeal.Val.final m' c).trans ?_
  rw [h0, h1, h2, h3, h4, h5]
  funext y
  have hy : y = ix2 ((y 0).cast rfl : Fin 256) ((y 1).cast rfl : Fin 5120) := by
    funext a; fin_cases a <;> rfl
  rw [hy]
  exact (Cert.ReferenceIdeal.Val.stored_at _ _ _ _ _ _ _ _).trans (Cert.KernelIdeal.Val.final_value m c _ _).symm

/-- The kernel's real form computes the reference: from equal arguments both run, end with equal results and leave the
    arguments as they were. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => (Cert.KernelIdeal.Val.dats m 0 c).arrAt 7 Cert.KernelIdeal.cfg0.N, Cert.KernelIdeal.Val.run_value m g, ?_⟩
  refine (θ_run _ _ _).mono (fun r hr c => ⟨(hr c).1.trans ?_, (hr c).2⟩) (Cert.ReferenceIdeal.Value.run_blocks m' g')
  exact values m m' c (h c).1 (h c).2.1 (h c).2.2.1 (h c).2.2.2.1 (h c).2.2.2.2.1 (h c).2.2.2.2.2

/-- Everything claimed. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, preserves, algebraic⟩

end Cert.Proof

end
